-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v132_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v5) = v0 c
          ∧ r.2.mem ((c.tc : Thread Cert.ProjReferenceIdeal.nD Cert.ProjReferenceIdeal.τ).loc Cert.ProjReferenceIdeal.main_v6) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v2_0)) (v1 : (c : Dev Cert.KvIdeal.nD) → Buf (Elt Ideal) ((c.tc : Thread Cert.KvIdeal.nD Cert.KvIdeal.τ).loc Cert.KvIdeal.main_v2_1)) (v2 : (c : Dev Cert.KvIdeal.nD) → Buf (Elt Ideal) ((c.tc : Thread Cert.KvIdeal.nD Cert.KvIdeal.τ).loc Cert.KvIdeal.main_v2_2)) (v3 : (c : Dev Cert.KvIdeal.nD) → Buf (Elt Ideal) ((c.tc : Thread Cert.KvIdeal.nD Cert.KvIdeal.τ).loc Cert.KvIdeal.main_v2_3)) (v4 : (c : Dev Cert.KvIdeal.nD) → Buf (Elt Ideal) ((c.tc : Thread Cert.KvIdeal.nD Cert.KvIdeal.τ).loc Cert.KvIdeal.main_v2_4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2_0) = v0 c
          ∧ r.2.mem ((c.tc : Thread Cert.KvIdeal.nD Cert.KvIdeal.τ).loc Cert.KvIdeal.main_v2_1) = v1 c
          ∧ r.2.mem ((c.tc : Thread Cert.KvIdeal.nD Cert.KvIdeal.τ).loc Cert.KvIdeal.main_v2_2) = v2 c
          ∧ r.2.mem ((c.tc : Thread Cert.KvIdeal.nD Cert.KvIdeal.τ).loc Cert.KvIdeal.main_v2_3) = v3 c
          ∧ r.2.mem ((c.tc : Thread Cert.KvIdeal.nD Cert.KvIdeal.τ).loc Cert.KvIdeal.main_v2_4) = v4 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v19) = v0 c
          ∧ r.2.mem ((c.tc : Thread Cert.KvReferenceIdeal.nD Cert.KvReferenceIdeal.τ).loc Cert.KvReferenceIdeal.main_v20) = v1 c
          ∧ r.2.mem ((c.tc : Thread Cert.KvReferenceIdeal.nD Cert.KvReferenceIdeal.τ).loc Cert.KvReferenceIdeal.main_v21) = v2 c
          ∧ r.2.mem ((c.tc : Thread Cert.KvReferenceIdeal.nD Cert.KvReferenceIdeal.τ).loc Cert.KvReferenceIdeal.main_v23) = v3 c
          ∧ r.2.mem ((c.tc : Thread Cert.KvReferenceIdeal.nD Cert.KvReferenceIdeal.τ).loc Cert.KvReferenceIdeal.main_v24) = v4 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)) →
    ∃ (v0 : (c : Dev Cert.TailIdeal.nD) → Buf (Elt Ideal) ((c.tc : Thread Cert.TailIdeal.nD Cert.TailIdeal.τ).loc Cert.TailIdeal.main_v6_0)) (v1 : (c : Dev Cert.TailIdeal.nD) → Buf (Elt Ideal) ((c.tc : Thread Cert.TailIdeal.nD Cert.TailIdeal.τ).loc Cert.TailIdeal.main_v6_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6_0) = v0 c
          ∧ r.2.mem ((c.tc : Thread Cert.TailIdeal.nD Cert.TailIdeal.τ).loc Cert.TailIdeal.main_v6_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v18) = v0 c
          ∧ r.2.mem ((c.tc : Thread Cert.TailReferenceIdeal.nD Cert.TailReferenceIdeal.τ).loc Cert.TailReferenceIdeal.main_v36) = v1 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v17) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v4) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v24) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hKv : Cert.Kv.Facts) (hKvIdeal : Cert.KvIdeal.Facts) (hKvReferenceIdeal : Cert.KvReferenceIdeal.Facts) (hTail : Cert.Tail.Facts) (hTailIdeal : Cert.TailIdeal.Facts) (hTailReferenceIdeal : Cert.TailReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hNorm : Cert.Norm.Facts) (hNormIdeal : Cert.NormIdeal.Facts) (hNormReferenceIdeal : Cert.NormReferenceIdeal.Facts) (hMemKv : Cert.MemKv.Facts) (hMemKvIdeal : Cert.MemKvIdeal.Facts) (hMemKvReferenceIdeal : Cert.MemKvReferenceIdeal.Facts) (hMem : Cert.Mem.Facts) (hMemIdeal : Cert.MemIdeal.Facts) (hMemReferenceIdeal : Cert.MemReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Kv (hKv := hKv)
    ∧ quiescent_KvIdeal (hKvIdeal := hKvIdeal)
    ∧ quiescent_KvReferenceIdeal (hKvReferenceIdeal := hKvReferenceIdeal)
    ∧ quiescent_Tail (hTail := hTail)
    ∧ quiescent_TailIdeal (hTailIdeal := hTailIdeal)
    ∧ quiescent_TailReferenceIdeal (hTailReferenceIdeal := hTailReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Mem (hMem := hMem)
    ∧ quiescent_MemIdeal (hMemIdeal := hMemIdeal)
    ∧ quiescent_MemReferenceIdeal (hMemReferenceIdeal := hMemReferenceIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Kv_KvIdeal
    ∧ algebraic_KvIdeal_KvReferenceIdeal (hKvIdeal := hKvIdeal) (hKvReferenceIdeal := hKvReferenceIdeal)
    ∧ preserves_Tail_TailIdeal
    ∧ algebraic_TailIdeal_TailReferenceIdeal (hTailIdeal := hTailIdeal) (hTailReferenceIdeal := hTailReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_Norm_NormIdeal
    ∧ algebraic_NormIdeal_NormReferenceIdeal (hNormIdeal := hNormIdeal) (hNormReferenceIdeal := hNormReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Mem_MemIdeal
    ∧ algebraic_MemIdeal_MemReferenceIdeal (hMemIdeal := hMemIdeal) (hMemReferenceIdeal := hMemReferenceIdeal)
-- ==== Kernel.lean ====
abbrev S8192x10240 : Shape := ⟨2, ![8192, 10240]⟩
abbrev S2048 : Shape := ⟨1, ![2048]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S4096 : Shape := ⟨1, ![4096]⟩
abbrev S4096x1 : Shape := ⟨2, ![4096, 1]⟩
abbrev S4096x128 : Shape := ⟨2, ![4096, 128]⟩
abbrev S1x2048 : Shape := ⟨2, ![1, 2048]⟩
abbrev S8192x2048 : Shape := ⟨2, ![8192, 2048]⟩
abbrev S2x8x256x256 : Shape := ⟨4, ![2, 8, 256, 256]⟩
abbrev S2048x256 : Shape := ⟨2, ![2048, 256]⟩
abbrev S2048x128 : Shape := ⟨2, ![2048, 128]⟩
abbrev S1x128x1 : Shape := ⟨3, ![1, 128, 1]⟩
abbrev S1x1x1 : Shape := ⟨3, ![1, 1, 1]⟩
abbrev S1x256 : Shape := ⟨2, ![1, 256]⟩
abbrev S1x1x256x256 : Shape := ⟨4, ![1, 1, 256, 256]⟩
abbrev S128x256 : Shape := ⟨2, ![128, 256]⟩
abbrev S256x256 : Shape := ⟨2, ![256, 256]⟩
abbrev S256x128 : Shape := ⟨2, ![256, 128]⟩
abbrev S1x1 : Shape := ⟨2, ![1, 1]⟩

abbrev nBuf : Space → Nat
  | .hbm => 80
  | .vmem => 26
  | .smem => 0
  | _ => 0

abbrev bufTy : (tb : Table) → Fin (tcTables nBuf tb) → BufTy
  | .hbm, ⟨0, _⟩ => ⟨S8192x10240, .f32⟩
  | .hbm, ⟨1, _⟩ => ⟨S2048, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .i1⟩
  | .hbm, ⟨21, _⟩ => ⟨S8x1x1, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x128x128, .f32⟩
  | .hbm, ⟨26, _⟩ => ⟨S8x128x128, .f32⟩
  | .hbm, ⟨27, _⟩ => ⟨S8x128x128, .f32⟩
  | .hbm, ⟨28, _⟩ => ⟨S8x128x128, .f32⟩
  | .hbm, ⟨29, _⟩ => ⟨S8x128x128, .f32⟩
  | .hbm, ⟨30, _⟩ => ⟨S_, .f32⟩
  | .hbm, ⟨31, _⟩ => ⟨S_, .f32⟩
  | .hbm, ⟨32, _⟩ => ⟨S8x128x128, .i1⟩
  | .hbm, ⟨33, _⟩ => ⟨S8x128x128, .f32⟩
  | .hbm, ⟨34, _⟩ => ⟨S8x128x128, .f32⟩
  | .hbm, ⟨35, _⟩ => ⟨S8x1, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S8x128, .f32⟩
  | .hbm, ⟨41, _⟩ => ⟨S8x128, .f32⟩
  | .hbm, ⟨42, _⟩ => ⟨S8x128, .f32⟩
  | .hbm, ⟨43, _⟩ => ⟨S8x128, .f32⟩
  | .hbm, ⟨44, _⟩ => ⟨S8x128x1, .f32⟩
  | .hbm, ⟨45, _⟩ => ⟨S8x1, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S8x128, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S8x128x1, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S8, .f32⟩
  | .hbm, ⟨59, _⟩ => ⟨S8x1x1, .f32⟩
  | .hbm, ⟨60, _⟩ => ⟨S4096, .i32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S4096, .f32⟩
  | .hbm, ⟨70, _⟩ => ⟨S4096x1, .f32⟩
  | .hbm, ⟨71, _⟩ => ⟨S1x128, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S1x2048, .f32⟩
  | .hbm, ⟨78, _⟩ => ⟨S8192x2048, .bf16⟩
  | .hbm, ⟨79, _⟩ => ⟨S2x8x256x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x128x128, .f32⟩
  | .local _ .vmem, ⟨13, _⟩ => ⟨S1x128x128, .f32⟩
  | .local _ .vmem, ⟨14, _⟩ => ⟨S1x128x1, .f32⟩
  | .local _ .vmem, ⟨15, _⟩ => ⟨S1x128x1, .f32⟩
  | .local _ .vmem, ⟨16, _⟩ => ⟨S1x128x1, .f32⟩
  | .local _ .vmem, ⟨17, _⟩ => ⟨S1x128x1, .f32⟩
  | .local _ .vmem, ⟨18, _⟩ => ⟨S1x1x1, .f32⟩
  | .local _ .vmem, ⟨19, _⟩ => ⟨S1x1x1, .f32⟩
  | .local _ .vmem, ⟨20, _⟩ => ⟨S1x256, .f32⟩
  | .local _ .vmem, ⟨21, _⟩ => ⟨S1x256, .f32⟩
  | .local _ .vmem, ⟨22, _⟩ => ⟨S2048x256, .bf16⟩
  | .local _ .vmem, ⟨23, _⟩ => ⟨S2048x256, .bf16⟩
  | .local _ .vmem, ⟨24, _⟩ => ⟨S1x1x256x256, .f32⟩
  | .local _ .vmem, ⟨25, _⟩ => ⟨S1x1x256x256, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceIdeal.lean ====
abbrev S8192x10240 : Shape := ⟨2, ![8192, 10240]⟩
abbrev S2048 : Shape := ⟨1, ![2048]⟩
abbrev S2x4096x10240 : Shape := ⟨3, ![2, 4096, 10240]⟩
abbrev S2x4096x2048 : Shape := ⟨3, ![2, 4096, 2048]⟩
abbrev S4096 : Shape := ⟨1, ![4096]⟩
abbrev S2x4096x8x256 : Shape := ⟨4, ![2, 4096, 8, 256]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S2x4096x8x128 : Shape := ⟨4, ![2, 4096, 8, 128]⟩
abbrev S1x4096x1x128 : Shape := ⟨4, ![1, 4096, 1, 128]⟩
abbrev S2x8x256x256 : Shape := ⟨4, ![2, 8, 256, 256]⟩
abbrev S8 : Shape := ⟨1, ![8]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S2x32x128x8x256 : Shape := ⟨5, ![2, 32, 128, 8, 256]⟩
abbrev S32x2x128x8x256 : Shape := ⟨5, ![32, 2, 128, 8, 256]⟩
abbrev S1x2x128x8x256 : Shape := ⟨5, ![1, 2, 128, 8, 256]⟩
abbrev S2x128x8x256 : Shape := ⟨4, ![2, 128, 8, 256]⟩
abbrev S2x8x128x128 : Shape := ⟨4, ![2, 8, 128, 128]⟩
abbrev S1x8x128x128 : Shape := ⟨4, ![1, 8, 128, 128]⟩
abbrev S2x8x256x128 : Shape := ⟨4, ![2, 8, 256, 128]⟩
abbrev S2x4096x8 : Shape := ⟨3, ![2, 4096, 8]⟩
abbrev S2x4096x8x1 : Shape := ⟨4, ![2, 4096, 8, 1]⟩
abbrev S1x1x2048 : Shape := ⟨3, ![1, 1, 2048]⟩
abbrev S8192x2048 : Shape := ⟨2, ![8192, 2048]⟩

abbrev nBuf : Space → Nat
  | .hbm => 247
  | .vmem => 0
  | .smem => 0
  | _ => 0

abbrev hbmTy0_0 (i : Nat) : BufTy := match i % 128 with
  | 0 => ⟨S8192x10240, .f32⟩
  | 1 => ⟨S2048, .f32⟩
  | 2 => ⟨S2x4096x10240, .f32⟩
  | 3 => ⟨S2x4096x2048, .f32⟩
  | 4 => ⟨S2x4096x2048, .f32⟩
  | 5 => ⟨S2x4096x2048, .f32⟩
  | 6 => ⟨S2x4096x2048, .f32⟩
  | 7 => ⟨S4096, .i32⟩
  | 8 => ⟨S2x4096x8x256, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S4096, .f32⟩
  | 18 => ⟨S4096x1, .f32⟩
  | 19 => ⟨S1x128, .f32⟩
  | 20 => ⟨S4096x128, .f32⟩
  | 21 => ⟨S4096x128, .f32⟩
  | 22 => ⟨S4096x128, .f32⟩
  | 23 => ⟨S4096x128, .f32⟩
  | 24 => ⟨S4096x1x128, .f32⟩
  | 25 => ⟨S4096x128, .f32⟩
  | 26 => ⟨S4096x1x128, .f32⟩
  | 27 => ⟨S2x4096x8x128, .f32⟩
  | 28 => ⟨S2x4096x8x128, .f32⟩
  | 29 => ⟨S1x4096x1x128, .f32⟩
  | 30 => ⟨S2x4096x8x128, .f32⟩
  | 31 => ⟨S2x4096x8x128, .f32⟩
  | 32 => ⟨S1x4096x1x128, .f32⟩
  | 33 => ⟨S2x4096x8x128, .f32⟩
  | 34 => ⟨S2x4096x8x128, .f32⟩
  | 35 => ⟨S2x4096x8x128, .f32⟩
  | 36 => ⟨S1x4096x1x128, .f32⟩
  | 37 => ⟨S2x4096x8x128, .f32⟩
  | 38 => ⟨S2x4096x8x128, .f32⟩
  | 39 => ⟨S1x4096x1x128, .f32⟩
  | 40 => ⟨S2x4096x8x128, .f32⟩
  | 41 => ⟨S2x4096x8x128, .f32⟩
  | 42 => ⟨S2x4096x8x128, .f32⟩
  | 43 => ⟨S2x4096x8x256, .f32⟩
  | 44 => ⟨S2x4096x8x256, .f32⟩
  | 45 => ⟨S128, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S4096, .f32⟩
  | 54 => ⟨S4096x1, .f32⟩
  | 55 => ⟨S1x128, .f32⟩
  | 56 => ⟨S4096x128, .f32⟩
  | 57 => ⟨S4096x128, .f32⟩
  | 58 => ⟨S4096x128, .f32⟩
  | 59 => ⟨S4096x128, .f32⟩
  | 60 => ⟨S4096x1x128, .f32⟩
  | 61 => ⟨S4096x128, .f32⟩
  | 62 => ⟨S4096x1x128, .f32⟩
  | 63 => ⟨S2x4096x8x128, .f32⟩
  | 64 => ⟨S2x4096x8x128, .f32⟩
  | 65 => ⟨S1x4096x1x128, .f32⟩
  | 66 => ⟨S2x4096x8x128, .f32⟩
  | 67 => ⟨S2x4096x8x128, .f32⟩
  | 68 => ⟨S1x4096x1x128, .f32⟩
  | 69 => ⟨S2x4096x8x128, .f32⟩
  | 70 => ⟨S2x4096x8x128, .f32⟩
  | 71 => ⟨S2x4096x8x128, .f32⟩
  | 72 => ⟨S1x4096x1x128, .f32⟩
  | 73 => ⟨S2x4096x8x128, .f32⟩
  | 74 => ⟨S2x4096x8x128, .f32⟩
  | 75 => ⟨S1x4096x1x128, .f32⟩
  | 76 => ⟨S2x4096x8x128, .f32⟩
  | 77 => ⟨S2x4096x8x128, .f32⟩
  | 78 => ⟨S2x4096x8x128, .f32⟩
  | 79 => ⟨S2x4096x8x256, .f32⟩
  | 80 => ⟨S_, .f32⟩
  | 81 => ⟨S2x4096x8x256, .f32⟩
  | 82 => ⟨S2x4096x8x256, .f32⟩
  | 83 => ⟨S2x4096x8x256, .f32⟩
  | 84 => ⟨S_, .f32⟩
  | 85 => ⟨S2x8x256x256, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S8, .f32⟩
  | 95 => ⟨S8, .f32⟩
  | 96 => ⟨S128, .f32⟩
  | 97 => ⟨S128x1, .f32⟩
  | 98 => ⟨S1x128, .f32⟩
  | 99 => ⟨S128x128, .f32⟩
  | 100 => ⟨S128x128, .f32⟩
  | 101 => ⟨S128x128, .f32⟩
  | 102 => ⟨S_, .f32⟩
  | 103 => ⟨S128x128, .f32⟩
  | 104 => ⟨S128x128, .i1⟩
  | 105 => ⟨S8x1x1, .f32⟩
  | 106 => ⟨S_, .f32⟩
  | 107 => ⟨S128x128, .f32⟩
  | 108 => ⟨S128x128, .f32⟩
  | 109 => ⟨S1x128x128, .f32⟩
  | 110 => ⟨S8x128x128, .f32⟩
  | 111 => ⟨S8x128x128, .f32⟩
  | 112 => ⟨S8x128x128, .f32⟩
  | 113 => ⟨S8x128x128, .f32⟩
  | 114 => ⟨S_, .f32⟩
  | 115 => ⟨S_, .f32⟩
  | 116 => ⟨S8x128x128, .i1⟩
  | 117 => ⟨S8x128x128, .f32⟩
  | 118 => ⟨S8x128x128, .f32⟩
  | 119 => ⟨S1x8, .f32⟩
  | 120 => ⟨S128x1, .f32⟩
  | 121 => ⟨S_, .f32⟩
  | 122 => ⟨S128x1, .f32⟩
  | 123 => ⟨S128x1, .f32⟩
  | 124 => ⟨S128x8, .f32⟩
  | 125 => ⟨S128x8, .f32⟩
  | 126 => ⟨S128x8, .f32⟩
  | 127 => ⟨S128x8, .f32⟩
  | _ => ⟨S8192x10240, .f32⟩

abbrev hbmTy0_1 (i : Nat) : BufTy := match i % 128 with
  | 0 => ⟨S1x128x8x1, .f32⟩
  | 1 => ⟨S1x8, .f32⟩
  | 2 => ⟨S128x1, .f32⟩
  | 3 => ⟨S_, .f32⟩
  | 4 => ⟨S128x1, .f32⟩
  | 5 => ⟨S128x1, .f32⟩
  | 6 => ⟨S128x8, .f32⟩
  | 7 => ⟨S128x8, .f32⟩
  | 8 => ⟨S128x8, .f32⟩
  | 9 => ⟨S128x8, .f32⟩
  | 10 => ⟨S1x128x8x1, .f32⟩
  | 11 => ⟨S_, .f32⟩
  | 12 => ⟨S8, .f32⟩
  | 13 => ⟨S8, .f32⟩
  | 14 => ⟨S8, .f32⟩
  | 15 => ⟨S1x8x1x1, .f32⟩
  | 16 => ⟨S2x32x128x8x256, .f32⟩
  | 17 => ⟨S32x2x128x8x256, .f32⟩
  | 18 => ⟨S2x32x128x8x256, .f32⟩
  | 19 => ⟨S32x2x128x8x256, .f32⟩
  | 20 => ⟨S2x32x128x8x256, .f32⟩
  | 21 => ⟨S32x2x128x8x256, .f32⟩
  | 22 => ⟨S_, .f32⟩
  | 23 => ⟨S32x2x128x8x256, .f32⟩
  | 24 => ⟨S_, .i32⟩
  | 25 => ⟨S32x2x128x8x256, .f32⟩
  | 26 => ⟨S32x2x128x8x256, .f32⟩
  | 27 => ⟨S32x2x128x8x256, .f32⟩
  | 28 => ⟨S8x128x128, .f32⟩
  | 29 => ⟨S1x128x8x1, .f32⟩
  | 30 => ⟨S1x8x1x1, .f32⟩
  | 31 => ⟨S1x128x8x1, .f32⟩
  | 32 => ⟨S_, .i32⟩
  | 33 => ⟨S2x8x256x256, .f32⟩
  | 34 => ⟨S32x2x128x8x256, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S1x2x128x8x256, .f32⟩
  | 42 => ⟨S2x128x8x256, .f32⟩
  | 43 => ⟨S_, .i32⟩
  | 44 => ⟨S_, .i32⟩
  | 45 => ⟨S_, .i32⟩
  | 46 => ⟨S_, .i32⟩
  | 47 => ⟨S1x2x128x8x256, .f32⟩
  | 48 => ⟨S2x128x8x256, .f32⟩
  | 49 => ⟨S_, .i32⟩
  | 50 => ⟨S_, .i32⟩
  | 51 => ⟨S_, .i32⟩
  | 52 => ⟨S_, .i32⟩
  | 53 => ⟨S1x2x128x8x256, .f32⟩
  | 54 => ⟨S2x128x8x256, .f32⟩
  | 55 => ⟨S2x8x128x128, .f32⟩
  | 56 => ⟨S1x8x128x128, .f32⟩
  | 57 => ⟨S2x8x128x128, .f32⟩
  | 58 => ⟨S2x8x128x128, .f32⟩
  | 59 => ⟨S2x8x256x128, .f32⟩
  | 60 => ⟨S2x128x8x256, .f32⟩
  | 61 => ⟨S2x8x256x128, .f32⟩
  | 62 => ⟨S2x128x8x256, .f32⟩
  | 63 => ⟨S2x128x8x256, .f32⟩
  | 64 => ⟨S2x128x8x256, .f32⟩
  | 65 => ⟨S2x128x8x256, .f32⟩
  | 66 => ⟨S2x8x256x256, .f32⟩
  | 67 => ⟨S2x8x256x256, .f32⟩
  | 68 => ⟨S2x128x8x256, .f32⟩
  | 69 => ⟨S2x128x8x256, .f32⟩
  | 70 => ⟨S2x8x256x256, .f32⟩
  | 71 => ⟨S2x8x256x256, .f32⟩
  | 72 => ⟨S1x2x128x8x256, .f32⟩
  | 73 => ⟨S_, .i32⟩
  | 74 => ⟨S_, .i32⟩
  | 75 => ⟨S_, .i32⟩
  | 76 => ⟨S_, .i32⟩
  | 77 => ⟨S32x2x128x8x256, .f32⟩
  | 78 => ⟨S_, .i32⟩
  | 79 => ⟨S_, .i32⟩
  | 80 => ⟨S2x32x128x8x256, .f32⟩
  | 81 => ⟨S2x4096x8x256, .f32⟩
  | 82 => ⟨S_, .f32⟩
  | 83 => ⟨S2x4096x8, .f32⟩
  | 84 => ⟨S2x4096x8x1, .f32⟩
  | 85 => ⟨S_, .f32⟩
  | 86 => ⟨S2x4096x8x1, .f32⟩
  | 87 => ⟨S2x4096x8x1, .f32⟩
  | 88 => ⟨S2x4096x8x256, .f32⟩
  | 89 => ⟨S2x4096x8x256, .f32⟩
  | 90 => ⟨S2x4096x8x256, .f32⟩
  | 91 => ⟨S_, .f32⟩
  | 92 => ⟨S2x4096x8, .f32⟩
  | 93 => ⟨S2x4096x8x1, .f32⟩
  | 94 => ⟨S_, .f32⟩
  | 95 => ⟨S2x4096x8x1, .f32⟩
  | 96 => ⟨S2x4096x8x1, .f32⟩
  | 97 => ⟨S_, .f32⟩
  | 98 => ⟨S2x4096x8x1, .f32⟩
  | 99 => ⟨S2x4096x8x1, .f32⟩
  | 100 => ⟨S2x4096x8x1, .f32⟩
  | 101 => ⟨S2x4096x8x256, .f32⟩
  | 102 => ⟨S2x4096x8x256, .f32⟩
  | 103 => ⟨S2x4096x2048, .f32⟩
  | 104 => ⟨S1x1x2048, .f32⟩
  | 105 => ⟨S2x4096x2048, .f32⟩
  | 106 => ⟨S2x4096x2048, .f32⟩
  | 107 => ⟨S2x4096x2048, .f32⟩
  | 108 => ⟨S2x4096x2048, .f32⟩
  | 109 => ⟨S_, .f32⟩
  | 110 => ⟨S2x4096x2048, .f32⟩
  | 111 => ⟨S2x4096x2048, .f32⟩
  | 112 => ⟨S_, .f32⟩
  | 113 => ⟨S2x4096x2048, .f32⟩
  | 114 => ⟨S2x4096x2048, .f32⟩
  | 115 => ⟨S2x4096x2048, .f32⟩
  | 116 => ⟨S2x4096x2048, .f32⟩
  | 117 => ⟨S8192x2048, .f32⟩
  | 118 => ⟨S8192x2048, .bf16⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_4 : Ref sig .tc := ⟨.hbm, 84, rfl⟩
abbrev main_v77 : Ref sig .tc := ⟨.hbm, 85, rfl⟩
abbrev main_v78 : Ref sig .tc := ⟨.hbm, 86, rfl⟩
abbrev main_cst_5 : Ref sig .tc := ⟨.hbm, 87, rfl⟩
abbrev main_v79 : Ref sig .tc := ⟨.hbm, 88, rfl⟩
abbrev main_v80 : Ref sig .tc := ⟨.hbm, 89, rfl⟩
abbrev main_cst_6 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_7 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_8 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_cst_9 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_10 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_cst_11 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_12 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_13 : Ref sig .tc := ⟨.hbm, 150, rfl⟩
abbrev main_v131 : Ref sig .tc := ⟨.hbm, 151, rfl⟩
abbrev main_c : Ref sig .tc := ⟨.hbm, 152, rfl⟩
abbrev main_v132_0 : Ref sig .tc := ⟨.hbm, 153, rfl⟩
abbrev main_v132_1 : Ref sig .tc := ⟨.hbm, 154, rfl⟩
abbrev main_v132_2 : Ref sig .tc := ⟨.hbm, 155, rfl⟩
abbrev main_v132_3 : Ref sig .tc := ⟨.hbm, 156, rfl⟩
abbrev main_v132_4 : Ref sig .tc := ⟨.hbm, 157, rfl⟩
abbrev main_v132_5 : Ref sig .tc := ⟨.hbm, 158, rfl⟩
abbrev main_v132_6 : Ref sig .tc := ⟨.hbm, 159, rfl⟩
abbrev main_v132_7 : Ref sig .tc := ⟨.hbm, 160, rfl⟩
abbrev main_v132_8 : Ref sig .tc := ⟨.hbm, 161, rfl⟩
abbrev main_v132_9 : Ref sig .tc := ⟨.hbm, 162, rfl⟩
abbrev main_while0c_c_28 : Ref sig .tc := ⟨.hbm, 163, rfl⟩
abbrev main_while0c_v159 : Ref sig .tc := ⟨.hbm, 164, rfl⟩
abbrev main_while0b_call1_c : Ref sig .tc := ⟨.hbm, 165, rfl⟩
abbrev main_while0b_call1_c_0 : Ref sig .tc := ⟨.hbm, 166, rfl⟩
abbrev main_while0b_call1_c_1 : Ref sig .tc := ⟨.hbm, 167, rfl⟩
abbrev main_while0b_call1_c_2 : Ref sig .tc := ⟨.hbm, 168, rfl⟩
abbrev main_while0b_call1_v0 : Ref sig .tc := ⟨.hbm, 169, rfl⟩
abbrev main_while0b_v159 : Ref sig .tc := ⟨.hbm, 170, rfl⟩
abbrev main_while0b_call2_c : Ref sig .tc := ⟨.hbm, 171, rfl⟩
abbrev main_while0b_call2_c_0 : Ref sig .tc := ⟨.hbm, 172, rfl⟩
abbrev main_while0b_call2_c_1 : Ref sig .tc := ⟨.hbm, 173, rfl⟩
abbrev main_while0b_call2_c_2 : Ref sig .tc := ⟨.hbm, 174, rfl⟩
abbrev main_while0b_call2_v0 : Ref sig .tc := ⟨.hbm, 175, rfl⟩
abbrev main_while0b_v160 : Ref sig .tc := ⟨.hbm, 176, rfl⟩
abbrev main_while0b_call3_c : Ref sig .tc := ⟨.hbm, 177, rfl⟩
abbrev main_while0b_call3_c_0 : Ref sig .tc := ⟨.hbm, 178, rfl⟩
abbrev main_while0b_call3_c_1 : Ref sig .tc := ⟨.hbm, 179, rfl⟩
abbrev main_while0b_call3_c_2 : Ref sig .tc := ⟨.hbm, 180, rfl⟩
abbrev main_while0b_call3_v0 : Ref sig .tc := ⟨.hbm, 181, rfl⟩
abbrev main_while0b_v161 : Ref sig .tc := ⟨.hbm, 182, rfl⟩
abbrev main_while0b_v162 : Ref sig .tc := ⟨.hbm, 183, rfl⟩
abbrev main_while0b_v163 : Ref sig .tc := ⟨.hbm, 184, rfl⟩
abbrev main_while0b_v164 : Ref sig .tc := ⟨.hbm, 185, rfl⟩
abbrev main_while0b_v165 : Ref sig .tc := ⟨.hbm, 186, rfl⟩
abbrev main_while0b_v166 : Ref sig .tc := ⟨.hbm, 187, rfl⟩
abbrev main_while0b_v167 : Ref sig .tc := ⟨.hbm, 188, rfl⟩
abbrev main_while0b_v168 : Ref sig .tc := ⟨.hbm, 189, rfl⟩
abbrev main_while0b_v169 : Ref sig .tc := ⟨.hbm, 190, rfl⟩
abbrev main_while0b_v170 : Ref sig .tc := ⟨.hbm, 191, rfl⟩
abbrev main_while0b_v171 : Ref sig .tc := ⟨.hbm, 192, rfl⟩
abbrev main_while0b_v172 : Ref sig .tc := ⟨.hbm, 193, rfl⟩
abbrev main_while0b_v173 : Ref sig .tc := ⟨.hbm, 194, rfl⟩
abbrev main_while0b_v174 : Ref sig .tc := ⟨.hbm, 195, rfl⟩
abbrev main_while0b_v175 : Ref sig .tc := ⟨.hbm, 196, rfl⟩
abbrev main_while0b_v176 : Ref sig .tc := ⟨.hbm, 197, rfl⟩
abbrev main_while0b_v177 : Ref sig .tc := ⟨.hbm, 198, rfl⟩
abbrev main_while0b_v178 : Ref sig .tc := ⟨.hbm, 199, rfl⟩
abbrev main_while0b_call4_v0 : Ref sig .tc := ⟨.hbm, 200, rfl⟩
abbrev main_while0b_call4_c : Ref sig .tc := ⟨.hbm, 201, rfl⟩
abbrev main_while0b_call4_c_0 : Ref sig .tc := ⟨.hbm, 202, rfl⟩
abbrev main_while0b_call4_c_1 : Ref sig .tc := ⟨.hbm, 203, rfl⟩
abbrev main_while0b_call4_c_2 : Ref sig .tc := ⟨.hbm, 204, rfl⟩
abbrev main_while0b_v179 : Ref sig .tc := ⟨.hbm, 205, rfl⟩
abbrev main_while0b_c_28 : Ref sig .tc := ⟨.hbm, 206, rfl⟩
abbrev main_while0b_v180 : Ref sig .tc := ⟨.hbm, 207, rfl⟩
abbrev main_v133 : Ref sig .tc := ⟨.hbm, 208, rfl⟩
abbrev main_v134 : Ref sig .tc := ⟨.hbm, 209, rfl⟩
abbrev main_cst_14 : Ref sig .tc := ⟨.hbm, 210, rfl⟩
abbrev main_v135 : Ref sig .tc := ⟨.hbm, 211, rfl⟩
abbrev main_v136 : Ref sig .tc := ⟨.hbm, 212, rfl⟩
abbrev main_cst_15 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_16 : Ref sig .tc := ⟨.hbm, 219, rfl⟩
abbrev main_v142 : Ref sig .tc := ⟨.hbm, 220, rfl⟩
abbrev main_v143 : Ref sig .tc := ⟨.hbm, 221, rfl⟩
abbrev main_cst_17 : Ref sig .tc := ⟨.hbm, 222, rfl⟩
abbrev main_v144 : Ref sig .tc := ⟨.hbm, 223, rfl⟩
abbrev main_v145 : Ref sig .tc := ⟨.hbm, 224, rfl⟩
abbrev main_cst_18 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_call5_v0 : Ref sig .tc := ⟨.hbm, 235, rfl⟩
abbrev main_call5_v1 : Ref sig .tc := ⟨.hbm, 236, rfl⟩
abbrev main_call5_cst : Ref sig .tc := ⟨.hbm, 237, rfl⟩
abbrev main_call5_v2 : Ref sig .tc := ⟨.hbm, 238, rfl⟩
abbrev main_call5_v3 : Ref sig .tc := ⟨.hbm, 239, rfl⟩
abbrev main_call5_cst_0 : Ref sig .tc := ⟨.hbm, 240, rfl⟩
abbrev main_call5_v4 : Ref sig .tc := ⟨.hbm, 241, rfl⟩
abbrev main_call5_v5 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩

abbrev nD : Nat := 1
abbrev τ : Topo := Topo.v7x

variable {F : FTy → Type} [FloatOps F]

abbrev main_while0_count : Scf.Loop 32 := ⟨0#32, 32#32, 1#32⟩
-- ==== Proj.lean ====
abbrev S8192x2048 : Shape := ⟨2, ![8192, 2048]⟩
abbrev S1x2048x23088 : Shape := ⟨3, ![1, 2048, 23088]⟩
abbrev S8x2048 : Shape := ⟨2, ![8, 2048]⟩
abbrev S2048x23088 : Shape := ⟨2, ![2048, 23088]⟩
abbrev S23088x2048 : Shape := ⟨2, ![23088, 2048]⟩
abbrev S8192x10240 : Shape := ⟨2, ![8192, 10240]⟩
abbrev S8x10240 : Shape := ⟨2, ![8, 10240]⟩
abbrev S1024x2048 : Shape := ⟨2, ![1024, 2048]⟩
abbrev S1024x1024 : Shape := ⟨2, ![1024, 1024]⟩
abbrev S8x1024 : Shape := ⟨2, ![8, 1024]⟩
abbrev S2048x1024 : Shape := ⟨2, ![2048, 1024]⟩
abbrev S256x2048 : Shape := ⟨2, ![256, 2048]⟩
abbrev S2048x256 : Shape := ⟨2, ![2048, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x23088, .f32⟩
  | .hbm, ⟨2, _⟩ => ⟨S8x2048, .bf16⟩
  | .hbm, ⟨3, _⟩ => ⟨S2048x23088, .f32⟩
  | .hbm, ⟨4, _⟩ => ⟨S23088x2048, .f32⟩
  | .hbm, ⟨5, _⟩ => ⟨S8192x10240, .f32⟩
  | .hbm, ⟨6, _⟩ => ⟨S8x10240, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S8x2048, .bf16⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S8x1024, .f32⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![10, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjReferenceIdeal.lean ====
abbrev S8192x2048 : Shape := ⟨2, ![8192, 2048]⟩
abbrev S1x2048x23088 : Shape := ⟨3, ![1, 2048, 23088]⟩
abbrev S8x2048 : Shape := ⟨2, ![8, 2048]⟩
abbrev S2048x23088 : Shape := ⟨2, ![2048, 23088]⟩
abbrev S8192x23088 : Shape := ⟨2, ![8192, 23088]⟩
abbrev S8x23088 : Shape := ⟨2, ![8, 23088]⟩
abbrev S8192x10240 : Shape := ⟨2, ![8192, 10240]⟩
abbrev S8x10240 : Shape := ⟨2, ![8, 10240]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x23088, .f32⟩
  | .hbm, ⟨2, _⟩ => ⟨S8x2048, .bf16⟩
  | .hbm, ⟨3, _⟩ => ⟨S2048x23088, .f32⟩
  | .hbm, ⟨4, _⟩ => ⟨S8192x2048, .f32⟩
  | .hbm, ⟨5, _⟩ => ⟨S8192x23088, .f32⟩
  | .hbm, ⟨6, _⟩ => ⟨S8x2048, .f32⟩
  | .hbm, ⟨7, _⟩ => ⟨S8x23088, .f32⟩
  | .hbm, ⟨8, _⟩ => ⟨S8192x10240, .f32⟩
  | .hbm, ⟨9, _⟩ => ⟨S8x10240, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kv.lean ====
abbrev S8192x2048 : Shape := ⟨2, ![8192, 2048]⟩
abbrev S1x2048x23088 : Shape := ⟨3, ![1, 2048, 23088]⟩
abbrev S8x2048 : Shape := ⟨2, ![8, 2048]⟩
abbrev S2048x23088 : Shape := ⟨2, ![2048, 23088]⟩
abbrev S23088x2048 : Shape := ⟨2, ![23088, 2048]⟩
abbrev S8192x3072 : Shape := ⟨2, ![8192, 3072]⟩
abbrev S65536x128 : Shape := ⟨2, ![65536, 128]⟩
abbrev S8192x128 : Shape := ⟨2, ![8192, 128]⟩
abbrev S8x3072 : Shape := ⟨2, ![8, 3072]⟩
abbrev S512x2048 : Shape := ⟨2, ![512, 2048]⟩
abbrev S1024x2048 : Shape := ⟨2, ![1024, 2048]⟩
abbrev S512x1024 : Shape := ⟨2, ![512, 1024]⟩
abbrev S4096x128 : Shape := ⟨2, ![4096, 128]⟩
abbrev S8x1024 : Shape := ⟨2, ![8, 1024]⟩
abbrev S2048x1024 : Shape := ⟨2, ![2048, 1024]⟩
abbrev S256x2048 : Shape := ⟨2, ![256, 2048]⟩
abbrev S2048x256 : Shape := ⟨2, ![2048, 256]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S1x2048x23088, .f32⟩
  | .hbm, ⟨2, _⟩ => ⟨S8x2048, .bf16⟩
  | .hbm, ⟨3, _⟩ => ⟨S2048x23088, .f32⟩
  | .hbm, ⟨4, _⟩ => ⟨S23088x2048, .f32⟩
  | .hbm, ⟨5, _⟩ => ⟨S8192x3072, .f32⟩
  | .hbm, ⟨6, _⟩ => ⟨S65536x128, .f32⟩
  | .hbm, ⟨7, _⟩ => ⟨S65536x128, .f32⟩
  | .hbm, ⟨8, _⟩ => ⟨S8192x128, .f32⟩
  | .hbm, ⟨9, _⟩ => ⟨S8x3072, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S1024x2048, .f32⟩
  | .local _ .vmem, ⟨4, _⟩ => ⟨S8x2048, .bf16⟩
  | .local _ .vmem, ⟨5, _⟩ => ⟨S512x1024, .f32⟩
  | .local _ .vmem, ⟨6, _⟩ => ⟨S512x1024, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S8x1024, .f32⟩
  | .local _ .vmem, ⟨14, _⟩ => ⟨S8x1024, .f32⟩
  | .local _ .vmem, ⟨15, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![3, 16], ![false, false]⟩

def k0_cond2 (i : grid0.Coords) : BitVec 1 :=
  let arg0 : BitVec 32 := BitVec.ofNat 32 (i 0).val
  let c0_i32_6 : BitVec 32 := 0#32
  let v7 : BitVec 1 := Scalar.cmpi .eq arg0 c0_i32_6
  let v8 : BitVec 32 := Scalar.extui v7
  let c0_i32_7 : BitVec 32 := 0#32
  let v9 : BitVec 1 := Scalar.cmpi .ne v8 c0_i32_7
  v9

def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_8 : BitVec 32 := 0#32
  let v12 : BitVec 1 := Scalar.cmpi .ne v11 c0_i32_8
  v12

def k0_cond4 (i : grid0.Coords) : BitVec 1 :=
  let arg0 : BitVec 32 := BitVec.ofNat 32 (i 0).val
  let c2_i32 : BitVec 32 := 2#32
  let v13 : BitVec 1 := Scalar.cmpi .eq arg0 c2_i32
  let arg1 : BitVec 32 := BitVec.ofNat 32 (i 1).val
  let c8_i32 : BitVec 32 := 8#32
  let c0_i32_9 : BitVec 32 := 0#32
  let v14 : BitVec 1 := Scalar.cmpi .eq c8_i32 c0_i32_9
  let c1_i32_10 : BitVec 32 := 1#32
  let v15 : BitVec 32 := Scalar.select v14 c1_i32_10 c8_i32
  let v16 : BitVec 32 := Scalar.remsi arg1 v15
  let c0_i32_12 : BitVec 32 := 0#32
  let v18 : BitVec 1 := Scalar.cmpi .slt v16 c0_i32_12
  let c0_i32_13 : BitVec 32 := 0#32
  let v19 : BitVec 1 := Scalar.cmpi .slt v15 c0_i32_13
  let v20 : BitVec 1 := Scalar.xori v18 v19
  let c0_i32_11 : BitVec 32 := 0#32
  let v17 : BitVec 1 := Scalar.cmpi .ne v16 c0_i32_11
  let v21 : BitVec 1 := Scalar.andi v20 v17
  let v22 : BitVec 32 := Scalar.addi v16 v15
  let v23 : BitVec 32 := Scalar.select v21 v22 v16
  let c7_i32 : BitVec 32 := 7#32
  let v24 : BitVec 1 := Scalar.cmpi .eq v23 c7_i32
  let v25 : BitVec 1 := Scalar.andi v13 v24
  let v26 : BitVec 32 := Scalar.extui v25
  let c0_i32_14 : BitVec 32 := 0#32
  let v27 : BitVec 1 := Scalar.cmpi .ne v26 c0_i32_14
  v27

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c15_i32 : BitVec 32 := 15#32
  let v2 : BitVec 32 := Scalar.select v1 arg1 c15_i32
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c15_i32 : BitVec 32 := 15#32
  let v2 : BitVec 32 := Scalar.select v1 arg1 c15_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c8_i32 : BitVec 32 := 8#32
  let v1 : BitVec 32 := Scalar.divsi arg1 c8_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.select v0 c0_i32_4 v17
  let c0_i32_5 : BitVec 32 := 0#32
  let c0_i32_6 : BitVec 32 := 0#32
  ![v18.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KvReferenceIdeal.lean ====
abbrev S8192x2048 : Shape := ⟨2, ![8192, 2048]⟩
abbrev S1x2048x23088 : Shape := ⟨3, ![1, 2048, 23088]⟩
abbrev S8x2048 : Shape := ⟨2, ![8, 2048]⟩
abbrev S2048x23088 : Shape := ⟨2, ![2048, 23088]⟩
abbrev S2x4096x2048 : Shape := ⟨3, ![2, 4096, 2048]⟩
abbrev S2x4096x23088 : Shape := ⟨3, ![2, 4096, 23088]⟩
abbrev S8x23088 : Shape := ⟨2, ![8, 23088]⟩
abbrev S2x4096x1024 : Shape := ⟨3, ![2, 4096, 1024]⟩
abbrev S2x4096x48 : Shape := ⟨3, ![2, 4096, 48]⟩
abbrev S2x4096x1536 : Shape := ⟨3, ![2, 4096, 1536]⟩
abbrev S2x4096x6144 : Shape := ⟨3, ![2, 4096, 6144]⟩
abbrev S2x4096x3072 : Shape := ⟨3, ![2, 4096, 3072]⟩
abbrev S8192x3072 : Shape := ⟨2, ![8192, 3072]⟩
abbrev S65536x128 : Shape := ⟨2, ![65536, 128]⟩
abbrev S2x512x1024 : Shape := ⟨3, ![2, 512, 1024]⟩
abbrev S8192x128 : Shape := ⟨2, ![8192, 128]⟩
abbrev S8x3072 : Shape := ⟨2, ![8, 3072]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x23088, .f32⟩
  | .hbm, ⟨2, _⟩ => ⟨S8x2048, .bf16⟩
  | .hbm, ⟨3, _⟩ => ⟨S2048x23088, .f32⟩
  | .hbm, ⟨4, _⟩ => ⟨S8192x2048, .f32⟩
  | .hbm, ⟨5, _⟩ => ⟨S2x4096x2048, .f32⟩
  | .hbm, ⟨6, _⟩ => ⟨S2x4096x23088, .f32⟩
  | .hbm, ⟨7, _⟩ => ⟨S8x2048, .f32⟩
  | .hbm, ⟨8, _⟩ => ⟨S8x23088, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x48, .f32⟩
  | .hbm, ⟨18, _⟩ => ⟨S2x4096x2048, .f32⟩
  | .hbm, ⟨19, _⟩ => ⟨S2x4096x1536, .f32⟩
  | .hbm, ⟨20, _⟩ => ⟨S2x4096x6144, .f32⟩
  | .hbm, ⟨21, _⟩ => ⟨S2x4096x3072, .f32⟩
  | .hbm, ⟨22, _⟩ => ⟨S8192x3072, .f32⟩
  | .hbm, ⟨23, _⟩ => ⟨S65536x128, .f32⟩
  | .hbm, ⟨24, _⟩ => ⟨S65536x128, .f32⟩
  | .hbm, ⟨25, _⟩ => ⟨S2x512x1024, .f32⟩
  | .hbm, ⟨26, _⟩ => ⟨S8192x128, .f32⟩
  | .hbm, ⟨27, _⟩ => ⟨S8x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Tail.lean ====
abbrev S8192x2048 : Shape := ⟨2, ![8192, 2048]⟩
abbrev S1x2048x23088 : Shape := ⟨3, ![1, 2048, 23088]⟩
abbrev S8x2048 : Shape := ⟨2, ![8, 2048]⟩
abbrev S2048x23088 : Shape := ⟨2, ![2048, 23088]⟩
abbrev S23088x2048 : Shape := ⟨2, ![23088, 2048]⟩
abbrev S48x2048 : Shape := ⟨2, ![48, 2048]⟩
abbrev S4x12x2048 : Shape := ⟨3, ![4, 12, 2048]⟩
abbrev S_ : Shape := ⟨0, ![]⟩
abbrev S4x128x2048 : Shape := ⟨3, ![4, 128, 2048]⟩
abbrev S512x2048 : Shape := ⟨2, ![512, 2048]⟩
abbrev S8192x10240 : Shape := ⟨2, ![8192, 10240]⟩
abbrev S8x10240 : Shape := ⟨2, ![8, 10240]⟩
abbrev S1024x2048 : Shape := ⟨2, ![1024, 2048]⟩
abbrev S1024x1024 : Shape := ⟨2, ![1024, 1024]⟩
abbrev S8x1024 : Shape := ⟨2, ![8, 1024]⟩
abbrev S2048x1024 : Shape := ⟨2, ![2048, 1024]⟩
abbrev S256x2048 : Shape := ⟨2, ![256, 2048]⟩
abbrev S2048x256 : Shape := ⟨2, ![2048, 256]⟩
abbrev S2048x512 : Shape := ⟨2, ![2048, 512]⟩

abbrev nBuf : Space → Nat
  | .hbm => 13
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x23088, .f32⟩
  | .hbm, ⟨2, _⟩ => ⟨S8x2048, .bf16⟩
  | .hbm, ⟨3, _⟩ => ⟨S2048x23088, .f32⟩
  | .hbm, ⟨4, _⟩ => ⟨S23088x2048, .f32⟩
  | .hbm, ⟨5, _⟩ => ⟨S48x2048, .f32⟩
  | .hbm, ⟨6, _⟩ => ⟨S4x12x2048, .f32⟩
  | .hbm, ⟨7, _⟩ => ⟨S_, .i32⟩
  | .hbm, ⟨8, _⟩ => ⟨S_, .f32⟩
  | .hbm, ⟨9, _⟩ => ⟨S4x128x2048, .f32⟩
  | .hbm, ⟨10, _⟩ => ⟨S512x2048, .f32⟩
  | .hbm, ⟨11, _⟩ => ⟨S8192x10240, .f32⟩
  | .hbm, ⟨12, _⟩ => ⟨S8x10240, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .f32⟩
  | .local _ .vmem, ⟨5, _⟩ => ⟨S8x2048, .bf16⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | .local _ .vmem, ⟨9, _⟩ => ⟨S8x1024, .f32⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![10, 8], ![false, false]⟩

def k0_mult1 (i : grid0.Coords) : BitVec 32 :=
  let arg0 : BitVec 32 := BitVec.ofNat 32 (i 0).val
  let c2_i32 : BitVec 32 := 2#32
  let v0 : BitVec 1 := Scalar.cmpi .slt arg0 c2_i32
  let c13360_i32 : BitVec 32 := 13360#32
  let c1024_i32 : BitVec 32 := 1024#32
  let v1 : BitVec 32 := Scalar.muli arg0 c1024_i32
  let v2 : BitVec 32 := Scalar.addi c13360_i32 v1
  let c8_i32 : BitVec 32 := 8#32
  let v3 : BitVec 1 := Scalar.cmpi .slt arg0 c8_i32
  let c16944_i32 : BitVec 32 := 16944#32
  let c2_i32_0 : BitVec 32 := 2#32
  let v4 : BitVec 32 := Scalar.subi arg0 c2_i32_0
  let c1024_i32_1 : BitVec 32 := 1024#32
  let v5 : BitVec 32 := Scalar.muli v4 c1024_i32_1
  let v6 : BitVec 32 := Scalar.addi c16944_i32 v5
  let c15408_i32 : BitVec 32 := 15408#32
  let c8_i32_2 : BitVec 32 := 8#32
  let v7 : BitVec 32 := Scalar.subi arg0 c8_i32_2
  let c1024_i32_3 : BitVec 32 := 1024#32
  let v8 : BitVec 32 := Scalar.muli v7 c1024_i32_3
  let v9 : BitVec 32 := Scalar.addi c15408_i32 v8
  let v10 : BitVec 32 := Scalar.select v3 v6 v9
  let v11 : BitVec 32 := Scalar.select v0 v2 v10
  v11
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let arg0 : BitVec 32 := BitVec.ofNat 32 (i 0).val
  let c9_i32 : BitVec 32 := 9#32
  let v0 : BitVec 1 := Scalar.cmpi .eq arg0 c9_i32
  let v_true : BitVec 1 := 1#1
  let v2 : BitVec 1 := Scalar.xori v0 v_true
  let v3 : BitVec 1 := Scalar.andi v1 v2
  let v4 : BitVec 32 := Scalar.extui v3
  let c0_i32_0 : BitVec 32 := 0#32
  let v5 : BitVec 1 := Scalar.cmpi .ne v4 c0_i32_0
  v5

def k0_cond2 (i : grid0.Coords) : BitVec 1 :=
  let arg1 : BitVec 32 := BitVec.ofNat 32 (i 1).val
  let c0_i32_1 : BitVec 32 := 0#32
  let v6 : BitVec 1 := Scalar.cmpi .eq arg1 c0_i32_1
  let arg0 : BitVec 32 := BitVec.ofNat 32 (i 0).val
  let c9_i32 : BitVec 32 := 9#32
  let v0 : BitVec 1 := Scalar.cmpi .eq arg0 c9_i32
  let v7 : BitVec 1 := Scalar.andi v6 v0
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c1024_i32 : BitVec 32 := 1024#32
  let v1 : BitVec 32 := Scalar.muli arg0 c1024_i32
  let c13360_i32 : BitVec 32 := 13360#32
  let v2 : BitVec 32 := Scalar.addi c13360_i32 v1
  let c8_i32 : BitVec 32 := 8#32
  let v3 : BitVec 1 := Scalar.cmpi .slt arg0 c8_i32
  let c2_i32_0 : BitVec 32 := 2#32
  let v4 : BitVec 32 := Scalar.subi arg0 c2_i32_0
  let c1024_i32_1 : BitVec 32 := 1024#32
  let v5 : BitVec 32 := Scalar.muli v4 c1024_i32_1
  let c16944_i32 : BitVec 32 := 16944#32
  let v6 : BitVec 32 := Scalar.addi c16944_i32 v5
  let c8_i32_2 : BitVec 32 := 8#32
  let v7 : BitVec 32 := Scalar.subi arg0 c8_i32_2
  let c1024_i32_3 : BitVec 32 := 1024#32
  let v8 : BitVec 32 := Scalar.muli v7 c1024_i32_3
  let c15408_i32 : BitVec 32 := 15408#32
  let v9 : BitVec 32 := Scalar.addi c15408_i32 v8
  let v10 : BitVec 32 := Scalar.select v3 v6 v9
  let v11 : BitVec 32 := Scalar.select v0 v2 v10
  let v12 : BitVec 32 := v11
  let c0_i32 : BitVec 32 := 0#32
  let c0_i32_4 : BitVec 32 := 0#32
  ![v12.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== TailReferenceIdeal.lean ====
abbrev S8192x2048 : Shape := ⟨2, ![8192, 2048]⟩
abbrev S1x2048x23088 : Shape := ⟨3, ![1, 2048, 23088]⟩
abbrev S8x2048 : Shape := ⟨2, ![8, 2048]⟩
abbrev S2048x23088 : Shape := ⟨2, ![2048, 23088]⟩
abbrev S8192x23088 : Shape := ⟨2, ![8192, 23088]⟩
abbrev S8192x1024 : Shape := ⟨2, ![8192, 1024]⟩
abbrev S8192x48 : Shape := ⟨2, ![8192, 48]⟩
abbrev S8192x1536 : Shape := ⟨2, ![8192, 1536]⟩
abbrev S8192x6144 : Shape := ⟨2, ![8192, 6144]⟩
abbrev S8192x4x12 : Shape := ⟨3, ![8192, 4, 12]⟩
abbrev S_ : Shape := ⟨0, ![]⟩
abbrev S8192x4x128 : Shape := ⟨3, ![8192, 4, 128]⟩
abbrev S8192x512 : Shape := ⟨2, ![8192, 512]⟩
abbrev S8192x10240 : Shape := ⟨2, ![8192, 10240]⟩
abbrev S8x23088 : Shape := ⟨2, ![8, 23088]⟩
abbrev S8x1024 : Shape := ⟨2, ![8, 1024]⟩
abbrev S8x48 : Shape := ⟨2, ![8, 48]⟩
abbrev S8x1536 : Shape := ⟨2, ![8, 1536]⟩
abbrev S8x6144 : Shape := ⟨2, ![8, 6144]⟩
abbrev S8x4x12 : Shape := ⟨3, ![8, 4, 12]⟩
abbrev S8x4x128 : Shape := ⟨3, ![8, 4, 128]⟩
abbrev S8x512 : Shape := ⟨2, ![8, 512]⟩
abbrev S8x10240 : Shape := ⟨2, ![8, 10240]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x23088, .f32⟩
  | .hbm, ⟨2, _⟩ => ⟨S8x2048, .bf16⟩
  | .hbm, ⟨3, _⟩ => ⟨S2048x23088, .f32⟩
  | .hbm, ⟨4, _⟩ => ⟨S8192x2048, .f32⟩
  | .hbm, ⟨5, _⟩ => ⟨S8192x23088, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x48, .f32⟩
  | .hbm, ⟨15, _⟩ => ⟨S8192x2048, .f32⟩
  | .hbm, ⟨16, _⟩ => ⟨S8192x1536, .f32⟩
  | .hbm, ⟨17, _⟩ => ⟨S8192x6144, .f32⟩
  | .hbm, ⟨18, _⟩ => ⟨S8192x4x12, .f32⟩
  | .hbm, ⟨19, _⟩ => ⟨S_, .i32⟩
  | .hbm, ⟨20, _⟩ => ⟨S_, .f32⟩
  | .hbm, ⟨21, _⟩ => ⟨S8192x4x128, .f32⟩
  | .hbm, ⟨22, _⟩ => ⟨S8192x512, .f32⟩
  | .hbm, ⟨23, _⟩ => ⟨S8192x10240, .f32⟩
  | .hbm, ⟨24, _⟩ => ⟨S8x2048, .f32⟩
  | .hbm, ⟨25, _⟩ => ⟨S8x23088, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x2048, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S8x48, .f32⟩
  | .hbm, ⟨35, _⟩ => ⟨S8x2048, .f32⟩
  | .hbm, ⟨36, _⟩ => ⟨S8x1536, .f32⟩
  | .hbm, ⟨37, _⟩ => ⟨S8x6144, .f32⟩
  | .hbm, ⟨38, _⟩ => ⟨S8x4x12, .f32⟩
  | .hbm, ⟨39, _⟩ => ⟨S_, .i32⟩
  | .hbm, ⟨40, _⟩ => ⟨S_, .f32⟩
  | .hbm, ⟨41, _⟩ => ⟨S8x4x128, .f32⟩
  | .hbm, ⟨42, _⟩ => ⟨S8x512, .f32⟩
  | .hbm, ⟨43, _⟩ => ⟨S8x10240, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c_0 : Ref sig .tc := ⟨.hbm, 39, rfl⟩
abbrev main_call1_v0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Merge.lean ====
abbrev S8192x2048 : Shape := ⟨2, ![8192, 2048]⟩
abbrev S8192x1536 : Shape := ⟨2, ![8192, 1536]⟩
abbrev S1x2048x2048 : Shape := ⟨3, ![1, 2048, 2048]⟩
abbrev S1x1536x2048 : Shape := ⟨3, ![1, 1536, 2048]⟩
abbrev S8192x10240 : Shape := ⟨2, ![8192, 10240]⟩
abbrev S2048x2048 : Shape := ⟨2, ![2048, 2048]⟩
abbrev S1536x2048 : Shape := ⟨2, ![1536, 2048]⟩
abbrev S1024x2048 : Shape := ⟨2, ![1024, 2048]⟩
abbrev S1024x1536 : Shape := ⟨2, ![1024, 1536]⟩
abbrev S2048x512 : Shape := ⟨2, ![2048, 512]⟩
abbrev S1536x512 : Shape := ⟨2, ![1536, 512]⟩
abbrev S1024x512 : Shape := ⟨2, ![1024, 512]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1536, .bf16⟩
  | .hbm, ⟨3, _⟩ => ⟨S1x2048x2048, .f32⟩
  | .hbm, ⟨4, _⟩ => ⟨S1x2048x2048, .f32⟩
  | .hbm, ⟨5, _⟩ => ⟨S1x1536x2048, .f32⟩
  | .hbm, ⟨6, _⟩ => ⟨S8192x10240, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S1536x2048, .f32⟩
  | .hbm, ⟨12, _⟩ => ⟨S1536x2048, .bf16⟩
  | .hbm, ⟨13, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1536, .bf16⟩
  | .local _ .vmem, ⟨5, _⟩ => ⟨S1024x1536, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1536x512, .bf16⟩
  | .local _ .vmem, ⟨11, _⟩ => ⟨S1536x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S8192x2048 : Shape := ⟨2, ![8192, 2048]⟩
abbrev S8192x1536 : Shape := ⟨2, ![8192, 1536]⟩
abbrev S1x2048x2048 : Shape := ⟨3, ![1, 2048, 2048]⟩
abbrev S1x1536x2048 : Shape := ⟨3, ![1, 1536, 2048]⟩
abbrev S8192x10240 : Shape := ⟨2, ![8192, 10240]⟩
abbrev S2048x2048 : Shape := ⟨2, ![2048, 2048]⟩
abbrev S1536x2048 : Shape := ⟨2, ![1536, 2048]⟩
abbrev S8192x6144 : Shape := ⟨2, ![8192, 6144]⟩
abbrev S8192x3x2048 : Shape := ⟨3, ![8192, 3, 2048]⟩
abbrev S_ : Shape := ⟨0, ![]⟩
abbrev S8192x1x2048 : Shape := ⟨3, ![8192, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1536, .bf16⟩
  | .hbm, ⟨3, _⟩ => ⟨S1x2048x2048, .f32⟩
  | .hbm, ⟨4, _⟩ => ⟨S1x2048x2048, .f32⟩
  | .hbm, ⟨5, _⟩ => ⟨S1x1536x2048, .f32⟩
  | .hbm, ⟨6, _⟩ => ⟨S8192x10240, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S8192x1536, .f32⟩
  | .hbm, ⟨14, _⟩ => ⟨S1536x2048, .f32⟩
  | .hbm, ⟨15, _⟩ => ⟨S8192x2048, .f32⟩
  | .hbm, ⟨16, _⟩ => ⟨S8192x6144, .f32⟩
  | .hbm, ⟨17, _⟩ => ⟨S8192x3x2048, .f32⟩
  | .hbm, ⟨18, _⟩ => ⟨S8192x3x2048, .f32⟩
  | .hbm, ⟨19, _⟩ => ⟨S8192x3x2048, .f32⟩
  | .hbm, ⟨20, _⟩ => ⟨S_, .f32⟩
  | .hbm, ⟨21, _⟩ => ⟨S8192x3x2048, .f32⟩
  | .hbm, ⟨22, _⟩ => ⟨S8192x3x2048, .f32⟩
  | .hbm, ⟨23, _⟩ => ⟨S_, .f32⟩
  | .hbm, ⟨24, _⟩ => ⟨S8192x3x2048, .f32⟩
  | .hbm, ⟨25, _⟩ => ⟨S8192x3x2048, .f32⟩
  | .hbm, ⟨26, _⟩ => ⟨S8192x1x2048, .f32⟩
  | .hbm, ⟨27, _⟩ => ⟨S8192x2048, .f32⟩
  | .hbm, ⟨28, _⟩ => ⟨S8192x2048, .f32⟩
  | .hbm, ⟨29, _⟩ => ⟨S8192x1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Out.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutReferenceIdeal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemKv.lean ====
abbrev S512x2048 : Shape := ⟨2, ![512, 2048]⟩
abbrev S1x2048x3072 : Shape := ⟨3, ![1, 2048, 3072]⟩
abbrev S2048x3072 : Shape := ⟨2, ![2048, 3072]⟩
abbrev S512x3072 : Shape := ⟨2, ![512, 3072]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S1x2048x3072, .f32⟩
  | .hbm, ⟨2, _⟩ => ⟨S2048x3072, .f32⟩
  | .hbm, ⟨3, _⟩ => ⟨S512x3072, .f32⟩
  | .local _ .vmem, ⟨0, _⟩ => ⟨S512x2048, .bf16⟩
  | .local _ .vmem, ⟨1, _⟩ => ⟨S2048x1024, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | .local _ .vmem, ⟨5, _⟩ => ⟨S2048x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvReferenceIdeal.lean ====
abbrev S512x2048 : Shape := ⟨2, ![512, 2048]⟩
abbrev S1x2048x3072 : Shape := ⟨3, ![1, 2048, 3072]⟩
abbrev S2x256x2048 : Shape := ⟨3, ![2, 256, 2048]⟩
abbrev S2048x3072 : Shape := ⟨2, ![2048, 3072]⟩
abbrev S2x256x3072 : Shape := ⟨3, ![2, 256, 3072]⟩
abbrev S512x3072 : Shape := ⟨2, ![512, 3072]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x3072, .f32⟩
  | .hbm, ⟨2, _⟩ => ⟨S512x2048, .f32⟩
  | .hbm, ⟨3, _⟩ => ⟨S2x256x2048, .f32⟩
  | .hbm, ⟨4, _⟩ => ⟨S2048x3072, .f32⟩
  | .hbm, ⟨5, _⟩ => ⟨S2x256x3072, .f32⟩
  | .hbm, ⟨6, _⟩ => ⟨S512x3072, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mem.lean ====
abbrev S8192x10240 : Shape := ⟨2, ![8192, 10240]⟩
abbrev S512x3072 : Shape := ⟨2, ![512, 3072]⟩
abbrev S8192x1536 : Shape := ⟨2, ![8192, 1536]⟩
abbrev S512x2048 : Shape := ⟨2, ![512, 2048]⟩
abbrev S256x3072 : Shape := ⟨2, ![256, 3072]⟩
abbrev S512x1536 : Shape := ⟨2, ![512, 1536]⟩
abbrev S256x384 : Shape := ⟨2, ![256, 384]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x10240, .f32⟩
  | .hbm, ⟨1, _⟩ => ⟨S512x3072, .f32⟩
  | .hbm, ⟨2, _⟩ => ⟨S8192x1536, .bf16⟩
  | .local _ .vmem, ⟨0, _⟩ => ⟨S512x2048, .f32⟩
  | .local _ .vmem, ⟨1, _⟩ => ⟨S512x2048, .f32⟩
  | .local _ .vmem, ⟨2, _⟩ => ⟨S256x3072, .f32⟩
  | .local _ .vmem, ⟨3, _⟩ => ⟨S256x3072, .f32⟩
  | .local _ .vmem, ⟨4, _⟩ => ⟨S512x1536, .bf16⟩
  | .local _ .vmem, ⟨5, _⟩ => ⟨S512x1536, .bf16⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemReferenceIdeal.lean ====
abbrev S8192x10240 : Shape := ⟨2, ![8192, 10240]⟩
abbrev S512x3072 : Shape := ⟨2, ![512, 3072]⟩
abbrev S8192x1536 : Shape := ⟨2, ![8192, 1536]⟩
abbrev S2x4096x4x384 : Shape := ⟨4, ![2, 4096, 4, 384]⟩
abbrev S2x256x2x4x384 : Shape := ⟨5, ![2, 256, 2, 4, 384]⟩
abbrev S2x256x1x4x384 : Shape := ⟨5, ![2, 256, 1, 4, 384]⟩
abbrev S2x256x4x384 : Shape := ⟨4, ![2, 256, 4, 384]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x384x4096 : Shape := ⟨4, ![2, 4, 384, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S512x3072, .f32⟩
  | .hbm, ⟨2, _⟩ => ⟨S8192x1536, .f32⟩
  | .hbm, ⟨3, _⟩ => ⟨S2x4096x4x384, .f32⟩
  | .hbm, ⟨4, _⟩ => ⟨S2x256x2x4x384, .f32⟩
  | .hbm, ⟨5, _⟩ => ⟨S2x256x1x4x384, .f32⟩
  | .hbm, ⟨6, _⟩ => ⟨S2x256x4x384, .f32⟩
  | .hbm, ⟨7, _⟩ => ⟨S2x4x4096x256, .f32⟩
  | .hbm, ⟨8, _⟩ => ⟨S_, .f32⟩
  | .hbm, ⟨9, _⟩ => ⟨S2x4x4096x256, .f32⟩
  | .hbm, ⟨10, _⟩ => ⟨S2x4x4096x256, .f32⟩
  | .hbm, ⟨11, _⟩ => ⟨S_, .f32⟩
  | .hbm, ⟨12, _⟩ => ⟨S2x4x4096, .f32⟩
  | .hbm, ⟨13, _⟩ => ⟨S_, .f32⟩
  | .hbm, ⟨14, _⟩ => ⟨S2x4x4096, .f32⟩
  | .hbm, ⟨15, _⟩ => ⟨S2x4x4096, .f32⟩
  | .hbm, ⟨16, _⟩ => ⟨S2x4x4096x1, .f32⟩
  | .hbm, ⟨17, _⟩ => ⟨S2x4x4096x256, .f32⟩
  | .hbm, ⟨18, _⟩ => ⟨S2x4x4096x256, .f32⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x256x1x4x384, .f32⟩
  | .hbm, ⟨26, _⟩ => ⟨S2x256x4x384, .f32⟩
  | .hbm, ⟨27, _⟩ => ⟨S2x4x384x4096, .f32⟩
  | .hbm, ⟨28, _⟩ => ⟨S2x4096x4x384, .f32⟩
  | .hbm, ⟨29, _⟩ => ⟨S8192x1536, .f32⟩
  | .hbm, ⟨30, _⟩ => ⟨S8192x1536, .bf16⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.LayerSpec.lean ====
module

public import Idealize.ShloMosaic.Lib.Pointwise

/-! The layer's plain parts over the extended reals: the merge of the branches and the output projection. -/

@[expose] public section

noncomputable section

open Idealize.ShloMosaic

namespace Cert.Layer

/-- The logistic function. -/
def sigm (x : EReal) : EReal := Ideal.div 1 (1 + Ideal.exp (0 - x))

/-- A row of a product. -/
def dotRow {k n : ℕ} (a : Fin k → EReal) (w : Fin k → Fin n → EReal) (j : Fin n) : EReal := ∑ x, a x * w x j

/-- One entry of the merge: each branch's row times its weights, gated and summed. -/
def merged (g0 g1 g2 y0 y1 y2 : EReal) : EReal := sigm g0 * y0 + sigm g1 * y1 + sigm g2 * y2

/-- The norm of a row by its mean square, with its weight. -/
def rms {n : ℕ} (x g : Fin n → EReal) (j : Fin n) : EReal :=
  x j * Ideal.rsqrt (Ideal.div (∑ i, x i * x i) (Ideal.ofBits FTy.f32 1157627904#32) + Ideal.ofBits FTy.f32 897988541#32)
    * g j

end Cert.Layer
-- ==== Proof.MergeValue.lean ====
module

public import proofs.«01_k».proof.Proof.LayerSpec
public import proofs.«01_k».proof.Proof.Gen.MergeIdeal.Value
public import proofs.«01_k».proof.Proof.Gen.MergeReferenceIdeal.Run
public import Idealize.ShloMosaic.Lib.Pipeline.ValueKit
public import Idealize.ShloMosaic.Lib.StableHlo.ReadAt

/-! The merge of the branches over the extended reals: the kernel's blocks and the reference's array. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.MergeIdeal.Steps

open Cert.MergeIdeal Cert.MergeIdeal.Gen
open Cert.Layer

/-- The merged array, from the branches' rows, their weights and the gates. -/
def mergedArr (a0 a1 : S8192x2048.Idx → EReal) (a2 : S8192x1536.Idx → EReal) (w0 w1 : S1x2048x2048.Idx → EReal)
    (w2 : S1x1536x2048.Idx → EReal) (z : S8192x10240.Idx → EReal) (p : Fin 8192) (n : Fin 2048) : EReal :=
  merged (z (ix2 p ⟨2048 + n.val, by omega⟩)) (z (ix2 p ⟨4096 + n.val, by omega⟩)) (z (ix2 p ⟨6144 + n.val, by omega⟩))
    (dotRow (fun k => a0 (ix2 p k)) (fun k n => w0 (ix3 0 k n)) n)
    (dotRow (fun k => a1 (ix2 p k)) (fun k n => w1 (ix3 0 k n)) n)
    (dotRow (fun k => a2 (ix2 p k)) (fun k n => w2 (ix3 0 k n)) n)

/-- The same as an array. -/
def mergedOut (a0 a1 : S8192x2048.Idx → EReal) (a2 : S8192x1536.Idx → EReal) (w0 w1 : S1x2048x2048.Idx → EReal)
    (w2 : S1x1536x2048.Idx → EReal) (z : S8192x10240.Idx → EReal) : S8192x2048.Idx → EReal :=
  fun y => mergedArr a0 a1 a2 w0 w1 w2 z (y 0) (y 1)

/-- One block of the kernel at an index. -/
theorem block_apply (x0 x1 : Vec Ideal S1024x2048 .bf16) (x2 : Vec Ideal S1024x1536 .bf16)
    (x3 x4 : Vec Ideal S2048x512 .bf16) (x5 : Vec Ideal S1536x512 .bf16) (x6 x7 x8 : Vec Ideal S1024x512 .f32)
    (p : Fin 1024) (n : Fin 512) :
    out0_9 x0 x1 x2 x3 x4 x5 x6 x7 x8 (ix2 p n)
      = merged (x6 (ix2 p n)) (x7 (ix2 p n)) (x8 (ix2 p n))
          (dotRow (fun k => x0 (ix2 p k)) (fun k n => x3 (ix2 k n)) n)
          (dotRow (fun k => x1 (ix2 p k)) (fun k n => x4 (ix2 k n)) n)
          (dotRow (fun k => x2 (ix2 p k)) (fun k n => x5 (ix2 k n)) n) := by
  have hz : (![0, 0] : Fin 2 → ℕ) = 0 := funext fun i => by fin_cases i <;> rfl
  unfold out0_9
  rw [View.canon_cons_unit_zero hz]
  simp only [View.ld_unit_zero (S := S1024x512) hz, View.ld_unit_zero (S := S1024x2048) hz,
    View.ld_unit_zero (S := S2048x512) hz, View.ld_unit_zero (S := S1024x1536) hz, View.ld_unit_zero (S := S1536x512) hz]
  pointwise [k0_pay1, k0_pay2, k0_pay3, merged, dotRow, sigm]

variable (m : (ℓ : Loc nD τ sig) → Buf (Elt Ideal) ℓ) (c : Dev nD)

/-- The block indices at every step. -/
theorem idx : ∀ t : Fin cfg0.N,
    win0_0.index t = ![t.val / 4, 0] ∧ win0_1.index t = ![t.val / 4, 0] ∧ win0_2.index t = ![t.val / 4, 0]
    ∧ win0_3.index t = ![0, t.val % 4] ∧ win0_4.index t = ![0, t.val % 4] ∧ win0_5.index t = ![0, t.val % 4]
    ∧ win0_6.index t = ![t.val / 4, 4 + t.val % 4] ∧ win0_7.index t = ![t.val / 4, 8 + t.val % 4]
    ∧ win0_8.index t = ![t.val / 4, 12 + t.val % 4] ∧ win0_9.index t = ![t.val / 4, t.val % 4] :=
  (by decide +kernel : ∀ t : Fin grid0.N,
    win0_0.index t = ![t.val / 4, 0] ∧ win0_1.index t = ![t.val / 4, 0] ∧ win0_2.index t = ![t.val / 4, 0]
    ∧ win0_3.index t = ![0, t.val % 4] ∧ win0_4.index t = ![0, t.val % 4] ∧ win0_5.index t = ![0, t.val % 4]
    ∧ win0_6.index t = ![t.val / 4, 4 + t.val % 4] ∧ win0_7.index t = ![t.val / 4, 8 + t.val % 4]
    ∧ win0_8.index t = ![t.val / 4, 12 + t.val % 4] ∧ win0_9.index t = ![t.val / 4, t.val % 4])

/-- There are 32 steps. -/
theorem lt32 (t : Fin cfg0.N) : t.val < 32 := lt_of_lt_of_eq t.isLt N_0

/-- The weights as the call takes them. -/
theorem w0_entry (k n : Fin 2048) : V m c main_v1 (ix2 k n) = m ((c : Thread nD τ).loc main_arg3) (ix3 0 k n) := by
  unfold V
  after_reads_at
theorem w1_entry (k n : Fin 2048) : V m c main_v3 (ix2 k n) = m ((c : Thread nD τ).loc main_arg4) (ix3 0 k n) := by
  unfold V
  after_reads_at
theorem w2_entry (k : Fin 1536) (n : Fin 2048) :
    V m c main_v5 (ix2 k n) = m ((c : Thread nD τ).loc main_arg5) (ix3 0 k n) := by
  unfold V
  after_reads_at

section
variable (t : Fin cfg0.N) (p : Fin 1024) (n : Fin 512)

/-- The blocks at a step, as entries of the arguments. -/
theorem a0_block (k : Fin 2048) : iblk m c 0 t (ix2 p k)
    = m ((c : Thread nD τ).loc main_arg0) (ix2 ⟨t.val / 4 * 1024 + p.val, by have := lt32 t; omega⟩ k) := by
  have := lt32 t
  blk_ext [iblk, V, idx t]
theorem a1_block (k : Fin 2048) : iblk m c 1 t (ix2 p k)
    = m ((c : Thread nD τ).loc main_arg1) (ix2 ⟨t.val / 4 * 1024 + p.val, by have := lt32 t; omega⟩ k) := by
  have := lt32 t
  blk_ext [iblk, V, idx t]
theorem a2_block (k : Fin 1536) : iblk m c 2 t (ix2 p k)
    = m ((c : Thread nD τ).loc main_arg2) (ix2 ⟨t.val / 4 * 1024 + p.val, by have := lt32 t; omega⟩ k) := by
  have := lt32 t
  blk_ext [iblk, V, idx t]
theorem w0_block (k : Fin 2048) : iblk m c 3 t (ix2 k n)
    = m ((c : Thread nD τ).loc main_arg3) (ix3 0 k ⟨t.val % 4 * 512 + n.val, by omega⟩) := by
  refine Eq.trans ?_ (w0_entry m c k ⟨t.val % 4 * 512 + n.val, by omega⟩)
  blk_ext [iblk, idx t]
theorem w1_block (k : Fin 2048) : iblk m c 4 t (ix2 k n)
    = m ((c : Thread nD τ).loc main_arg4) (ix3 0 k ⟨t.val % 4 * 512 + n.val, by omega⟩) := by
  refine Eq.trans ?_ (w1_entry m c k ⟨t.val % 4 * 512 + n.val, by omega⟩)
  blk_ext [iblk, idx t]
theorem w2_block (k : Fin 1536) : iblk m c 5 t (ix2 k n)
    = m ((c : Thread nD τ).loc main_arg5) (ix3 0 k ⟨t.val % 4 * 512 + n.val, by omega⟩) := by
  refine Eq.trans ?_ (w2_entry m c k ⟨t.val % 4 * 512 + n.val, by omega⟩)
  blk_ext [iblk, idx t]
theorem g0_block : iblk m c 6 t (ix2 p n) = m ((c : Thread nD τ).loc main_arg6)
    (ix2 ⟨t.val / 4 * 1024 + p.val, by have := lt32 t; omega⟩ ⟨2048 + (t.val % 4 * 512 + n.val), by omega⟩) := by
  have := lt32 t
  blk_ext [iblk, V, idx t]
theorem g1_block : iblk m c 7 t (ix2 p n) = m ((c : Thread nD τ).loc main_arg6)
    (ix2 ⟨t.val / 4 * 1024 + p.val, by have := lt32 t; omega⟩ ⟨4096 + (t.val % 4 * 512 + n.val), by omega⟩) := by
  have := lt32 t
  blk_ext [iblk, V, idx t]
theorem g2_block : iblk m c 8 t (ix2 p n) = m ((c : Thread nD τ).loc main_arg6)
    (ix2 ⟨t.val / 4 * 1024 + p.val, by have := lt32 t; omega⟩ ⟨6144 + (t.val % 4 * 512 + n.val), by omega⟩) := by
  have := lt32 t
  blk_ext [iblk, V, idx t]
end

/-- The result: the merged array of the arguments. -/
theorem final : (dats m 0 c).arrAt 9 cfg0.N = mergedOut (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨p, n, rfl⟩ : ∃ (p : Fin 1024) (n : Fin 512), y = ix2 p n := ⟨y 0, y 1, eq_ix2 y⟩
  have := lt32 t
  have h0 : (((cfg0.win 9).blk t).view.emb (ix2 p n)) 0 = (⟨t.val / 4 * 1024 + p.val, by omega⟩ : Fin 8192) :=
    Fin.ext (by blk_simp [idx t])
  have h1 : (((cfg0.win 9).blk t).view.emb (ix2 p n)) 1 = (⟨t.val % 4 * 512 + n.val, by omega⟩ : Fin 2048) :=
    Fin.ext (by blk_simp [idx t])
  unfold mergedOut
  rw [h0, h1]
  refine Eq.trans (b := out0_9 (iblk m c 0 t) (iblk m c 1 t) (iblk m c 2 t) (iblk m c 3 t) (iblk m c 4 t) (iblk m c 5 t)
    (iblk m c 6 t) (iblk m c 7 t) (iblk m c 8 t) (ix2 p n)) (by blk_simp; rw [after0_9]) ?_
  rw [block_apply, g0_block, g1_block, g2_block]
  simp only [a0_block, a1_block, a2_block, w0_block, w1_block, w2_block]
  rfl

end Cert.MergeIdeal.Steps

namespace Cert.MergeReferenceIdeal.Steps

open Cert.MergeReferenceIdeal Cert.MergeReferenceIdeal.Gen
open Cert.Layer

variable (m : (ℓ : Loc nD τ sig) → Buf (Elt Ideal) ℓ)

/-- A branch's product at an index. -/
theorem dot_apply (a : Vec Ideal S8192x2048 .bf16) (w : Vec Ideal S1x2048x2048 .f32) (p : Fin 8192) (n : Fin 2048) :
    Host.dotGeneral (F := Ideal) (φ₁ := .f32) (φ₂ := .f32) dot_S8192x2048_S2048x2048_S8192x2048_1_0_0_1_n_n none
        (extf .f32 a bitsLt_bf16_f32) (shapeCast _ w shapeCasts_S1x2048x2048_S2048x2048) (ix2 p n)
      = dotRow (fun k => a (ix2 p k)) (fun k n => w (ix3 0 k n)) n := by
  pointwise [dotRow]

/-- The memory branch's product at an index. -/
theorem dot_mem_apply (a : Vec Ideal S8192x1536 .bf16) (w : Vec Ideal S1x1536x2048 .f32) (p : Fin 8192)
    (n : Fin 2048) :
    Host.dotGeneral (F := Ideal) (φ₁ := .f32) (φ₂ := .f32) dot_S8192x1536_S1536x2048_S8192x2048_1_0_0_1_n_n none
        (extf .f32 a bitsLt_bf16_f32) (shapeCast _ w shapeCasts_S1x1536x2048_S1536x2048) (ix2 p n)
      = dotRow (fun k => a (ix2 p k)) (fun k n => w (ix3 0 k n)) n := by
  pointwise [dotRow]

/-- The gates' columns, one row of them per branch. -/
theorem cast_apply (z : Vec Ideal S8192x10240 .f32) (p : Fin 8192) (j : Fin 3) (n : Fin 2048) :
    shapeCast S8192x3x2048 (extractStridedSlice S8192x6144 ![0, 2048] z slices_S8192x10240_S8192x6144_0_2048)
        shapeCasts_S8192x6144_S8192x3x2048 (ix3 p j n)
      = z (ix2 p ⟨2048 + (j.val * 2048 + n.val), by omega⟩) := by
  pointwise []

/-- The logistic function of every entry. -/
theorem sigm_apply (z : Vec Ideal S8192x3x2048 .f32) (y : S8192x3x2048.Idx) :
    Host.divf (broadcastInDim S8192x3x2048 ![] bcast_S_S8192x3x2048 (constant (F := Ideal) S_ .f32 0x3F800000#32))
        (addf (broadcastInDim S8192x3x2048 ![] bcast_S_S8192x3x2048 (constant S_ .f32 0x3F800000#32))
          (Host.exp (Host.negf z))) y = sigm (z y) := by
  unfold sigm
  have hz (a : EReal) : (0 : EReal) - a = -a := zero_sub a
  rw [hz]
  pointwise []

/-- One branch's gates. -/
theorem part0_apply (z : Vec Ideal S8192x3x2048 .f32) (p : Fin 8192) (n : Fin 2048) :
    shapeCast S8192x2048 (extractStridedSlice S8192x1x2048 ![0, 0, 0] z slices_S8192x3x2048_S8192x1x2048_0_0_0)
      shapeCasts_S8192x1x2048_S8192x2048 (ix2 p n) = z (ix3 p 0 n) := by
  pointwise []
theorem part1_apply (z : Vec Ideal S8192x3x2048 .f32) (p : Fin 8192) (n : Fin 2048) :
    shapeCast S8192x2048 (extractStridedSlice S8192x1x2048 ![0, 1, 0] z slices_S8192x3x2048_S8192x1x2048_0_1_0)
      shapeCasts_S8192x1x2048_S8192x2048 (ix2 p n) = z (ix3 p 1 n) := by
  pointwise []
theorem part2_apply (z : Vec Ideal S8192x3x2048 .f32) (p : Fin 8192) (n : Fin 2048) :
    shapeCast S8192x2048 (extractStridedSlice S8192x1x2048 ![0, 2, 0] z slices_S8192x3x2048_S8192x1x2048_0_2_0)
      shapeCasts_S8192x1x2048_S8192x2048 (ix2 p n) = z (ix3 p 2 n) := by
  pointwise []

/-- The gated sum at an index. -/
theorem gatedSum_apply (a b c d e f : Vec Ideal S8192x2048 .f32) (y : S8192x2048.Idx) :
    truncf (F := Ideal) .bf16 (addf (addf (mulf a b) (mulf c d)) (mulf e f)) bitsLt_bf16_f32 y
      = (a y * b y + c y * d y + e y * f y : EReal) := by
  pointwise []

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v28) = Cert.MergeIdeal.Steps.mergedOut (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨?_, (h c).2⟩) (Value.run m ρ)
  rw [(h c).1]
  funext y
  obtain ⟨p, n, rfl⟩ : ∃ (p : Fin 8192) (n : Fin 2048), y = ix2 p n := ⟨y 0, y 1, eq_ix2 y⟩
  refine (gatedSum_apply _ _ _ _ _ _ _).trans ?_
  rw [part0_apply, part1_apply, part2_apply, sigm_apply, sigm_apply, sigm_apply, cast_apply, cast_apply, cast_apply,
    dot_apply, dot_apply, dot_mem_apply]
  unfold Cert.MergeIdeal.Steps.mergedOut Cert.MergeIdeal.Steps.mergedArr merged
  have e (j : Fin 3) (b : ℕ) (hb : 2048 + j.val * 2048 = b) :
      (⟨2048 + (j.val * 2048 + n.val), by omega⟩ : Fin 10240) = ⟨b + n.val, by omega⟩ := Fin.ext (by simp only; omega)
  rw [e 0 2048 rfl, e 1 4096 rfl, e 2 6144 rfl]
  rfl

end Cert.MergeReferenceIdeal.Steps
-- ==== Proof.OutValue.lean ====
module

public import proofs.«01_k».proof.Proof.LayerSpec
public import proofs.«01_k».proof.Proof.Gen.OutIdeal.Value
public import proofs.«01_k».proof.Proof.Gen.OutReferenceIdeal.Run
public import Idealize.ShloMosaic.Lib.Pipeline.ValueKit
public import Idealize.ShloMosaic.Lib.StableHlo.ReadAt

/-! The output projection, its norm and the residual over the extended reals: the kernel's blocks and the reference's
array. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.OutIdeal.Steps

open Cert.OutIdeal Cert.OutIdeal.Gen
open Cert.Layer

/-- The layer's output: the merged rows through the output weights, normed, added to the layer's input. -/
def outArr (a : S8192x2048.Idx → EReal) (w : S1x2048x2048.Idx → EReal) (x : S8192x2048.Idx → EReal)
    (g : S1x2048.Idx → EReal) (p : Fin 8192) (n : Fin 2048) : EReal :=
  x (ix2 p n) + rms (dotRow (fun k => a (ix2 p k)) fun k n => w (ix3 0 k n)) (fun n => g (ix2 0 n)) n

/-- The same as an array. -/
def outOf (a : S8192x2048.Idx → EReal) (w : S1x2048x2048.Idx → EReal) (x : S8192x2048.Idx → EReal)
    (g : S1x2048.Idx → EReal) : S8192x2048.Idx → EReal := fun y => outArr a w x g (y 0) (y 1)

/-- One block of the kernel at an index. -/
theorem block_apply (x0 : Vec Ideal S512x2048 .bf16) (x1 : Vec Ideal S2048x2048 .bf16) (x2 : Vec Ideal S512x2048 .f32)
    (x3 : Vec Ideal S1x2048 .f32) (p : Fin 512) (n : Fin 2048) :
    out0_4 x0 x1 x2 x3 (ix2 p n)
      = (x2 (ix2 p n) + rms (dotRow (fun k => x0 (ix2 p k)) fun k n => x1 (ix2 k n)) (fun n => x3 (ix2 0 n)) n : EReal) := by
  have hz : (![0, 0] : Fin 2 → ℕ) = 0 := funext fun i => by fin_cases i <;> rfl
  unfold out0_4
  rw [View.canon_cons_unit_zero hz]
  simp only [View.ld_unit_zero (S := S512x2048) hz, View.ld_unit_zero (S := S2048x2048) hz,
    View.ld_unit_zero (S := S1x2048) hz]
  pointwise [k0_pay1, rms, dotRow]

variable (m : (ℓ : Loc nD τ sig) → Buf (Elt Ideal) ℓ) (c : Dev nD)

/-- The block indices at every step. -/
theorem idx : ∀ t : Fin cfg0.N,
    win0_0.index t = ![t.val, 0] ∧ win0_1.index t = ![0, 0] ∧ win0_2.index t = ![t.val, 0] ∧ win0_3.index t = ![0, 0]
    ∧ win0_4.index t = ![t.val, 0] :=
  (by decide +kernel : ∀ t : Fin grid0.N,
    win0_0.index t = ![t.val, 0] ∧ win0_1.index t = ![0, 0] ∧ win0_2.index t = ![t.val, 0] ∧ win0_3.index t = ![0, 0]
    ∧ win0_4.index t = ![t.val, 0])

/-- There are 16 steps. -/
theorem lt16 (t : Fin cfg0.N) : t.val < 16 := lt_of_lt_of_eq t.isLt N_0

/-- The weights as the call takes them. -/
theorem w_entry (k n : Fin 2048) : V m c main_v1 (ix2 k n) = m ((c : Thread nD τ).loc main_arg1) (ix3 0 k n) := by
  unfold V
  after_reads_at

/-- The norm's weight as the call takes it. -/
theorem g_entry (n : Fin 2048) : V m c main_v3 (ix2 0 n) = m ((c : Thread nD τ).loc main_arg3) (ix2 0 n) := by
  unfold V
  after_reads_at

section
variable (t : Fin cfg0.N) (p : Fin 512) (n : Fin 2048)

/-- The blocks at a step, as entries of the arguments. -/
theorem a_block : iblk m c 0 t (ix2 p n)
    = m ((c : Thread nD τ).loc main_arg0) (ix2 ⟨t.val * 512 + p.val, by have := lt16 t; omega⟩ n) := by
  have := lt16 t
  blk_ext [iblk, V, idx t]
theorem w_block (k : Fin 2048) : iblk m c 1 t (ix2 k n) = m ((c : Thread nD τ).loc main_arg1) (ix3 0 k n) := by
  refine Eq.trans ?_ (w_entry m c k n)
  blk_ext [iblk, idx t]
theorem x_block : iblk m c 2 t (ix2 p n)
    = m ((c : Thread nD τ).loc main_arg2) (ix2 ⟨t.val * 512 + p.val, by have := lt16 t; omega⟩ n) := by
  have := lt16 t
  blk_ext [iblk, V, idx t]
theorem g_block : iblk m c 3 t (ix2 0 n) = m ((c : Thread nD τ).loc main_arg3) (ix2 0 n) := by
  refine Eq.trans ?_ (g_entry m c n)
  blk_ext [iblk, idx t]
end

/-- The result: the layer's output of the arguments. -/
theorem final : (dats m 0 c).arrAt 4 cfg0.N = outOf (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨p, n, rfl⟩ : ∃ (p : Fin 512) (n : Fin 2048), y = ix2 p n := ⟨y 0, y 1, eq_ix2 y⟩
  have := lt16 t
  have h0 : (((cfg0.win 4).blk t).view.emb (ix2 p n)) 0 = (⟨t.val * 512 + p.val, by omega⟩ : Fin 8192) :=
    Fin.ext (by blk_simp [idx t])
  have h1 : (((cfg0.win 4).blk t).view.emb (ix2 p n)) 1 = n := Fin.ext (by blk_simp [idx t])
  unfold outOf
  rw [h0, h1]
  refine Eq.trans (b := out0_4 (iblk m c 0 t) (iblk m c 1 t) (iblk m c 2 t) (iblk m c 3 t) (ix2 p n))
    (by blk_simp; rw [after0_4]) ?_
  rw [block_apply, x_block]
  simp only [a_block, w_block, g_block]
  rfl

end Cert.OutIdeal.Steps

namespace Cert.OutReferenceIdeal.Steps

open Cert.OutReferenceIdeal Cert.OutReferenceIdeal.Gen
open Cert.Layer

variable (m : (ℓ : Loc nD τ sig) → Buf (Elt Ideal) ℓ)

/-- The projection at an index. -/
theorem dot_apply (a : Vec Ideal S8192x2048 .bf16) (w : Vec Ideal S1x2048x2048 .f32) (p : Fin 8192) (n : Fin 2048) :
    Host.dotGeneral (F := Ideal) (φ₁ := .f32) (φ₂ := .f32) dot_S8192x2048_S2048x2048_S8192x2048_1_0_0_1_n_n none
        (extf .f32 a bitsLt_bf16_f32) (shapeCast _ w shapeCasts_S1x2048x2048_S2048x2048) (ix2 p n)
      = dotRow (fun k => a (ix2 p k)) (fun k n => w (ix3 0 k n)) n := by
  pointwise [dotRow]

/-- The norm and the residual at an index. -/
theorem norm_apply (x o : Vec Ideal S8192x2048 .f32) (g : Vec Ideal S1x2048 .f32) (p : Fin 8192) (n : Fin 2048) :
    addf (F := Ideal) x (mulf (mulf o (broadcastInDim S8192x2048 ![0, 1] bcast_S8192x1_S8192x2048_0_1
        (Host.rsqrt (addf (Host.divf (broadcastInDim S8192x1 ![0] bcast_S8192_S8192x1_0
          (Host.reduceAdd (mulf o o) (constant S_ .f32 0x00000000#32) reducesTo_S8192x2048_S8192_d1 h_S_))
          (broadcastInDim S8192x1 ![] bcast_S_S8192x1 (constant S_ .f32 0x45000000#32)))
          (broadcastInDim S8192x1 ![] bcast_S_S8192x1 (constant S_ .f32 0x358637BD#32))))))
        (broadcastInDim S8192x2048 ![0, 1] bcast_S1x2048_S8192x2048_0_1
          (broadcastInDim S1x2048 ![1] bcast_S2048_S1x2048_1 (shapeCast _ g shapeCasts_S1x2048_S2048)))) (ix2 p n)
      = (x (ix2 p n) + rms (fun n => o (ix2 p n)) (fun n => g (ix2 0 n)) n : EReal) := by
  pointwise [rms]

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v17) = Cert.OutIdeal.Steps.outOf (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_, (h c).2⟩) (Value.run m ρ)
  rw [(h c).1]
  funext y
  obtain ⟨p, n, rfl⟩ : ∃ (p : Fin 8192) (n : Fin 2048), y = ix2 p n := ⟨y 0, y 1, eq_ix2 y⟩
  refine (norm_apply _ _ _ p n).trans ?_
  rw [funext fun n => dot_apply _ _ p n]
  rfl

end Cert.OutReferenceIdeal.Steps
-- ==== Proof.ProjBody.lean ====
module

public import proofs.«01_k».proof.Proof.Gen.ProjIdeal.Frame
public import proofs.«01_k».proof.Proof.Gen.ProjIdeal.Skeleton
public import Idealize.ShloMosaic.Lib.Pipeline.TableIdle
public import Idealize.ShloMosaic.Lib.Pipeline.Value
public import Idealize.ShloMosaic.Lib.Claim

/-! The input projection's steps at any reading of the floats: the first step of a column tile fills the scratch with the tile's
weights transposed and multiplies the samples; every step multiplies a block of rows. The scratch and the samples' block
are held over the rest of the tile's steps. -/

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- The four stores that fill the scratch, last first: each writes a run of 256 columns, the transposed run of 256 rows
    of the weight block. -/
def strips (x : Vec F S1024x2048 .f32) : List (View.Piece (Elt F) S2048x1024 .bf16) :=
  [⟨Rect.unit ![0, 768] S2048x256.size inb_S2048x1024_S2048x256_0_768, k0_pay5 (View.ld x (Rect.unit ![768, 0] S256x2048.size inb_S1024x2048_S256x2048_768_0))⟩,
   ⟨Rect.unit ![0, 512] S2048x256.size inb_S2048x1024_S2048x256_0_512, k0_pay4 (View.ld x (Rect.unit ![512, 0] S256x2048.size inb_S1024x2048_S256x2048_512_0))⟩,
   ⟨Rect.unit ![0, 256] S2048x256.size inb_S2048x1024_S2048x256_0_256, k0_pay3 (View.ld x (Rect.unit ![256, 0] S256x2048.size inb_S1024x2048_S256x2048_256_0))⟩,
   ⟨Rect.unit ![0, 0] S2048x256.size inb_S2048x1024_S2048x256_0_0, k0_pay2 (View.ld x (Rect.unit ![0, 0] S256x2048.size inb_S1024x2048_S256x2048_0_0))⟩]

/-- What the scratch holds once the four stores are done. -/
def turned (x : Vec F S1024x2048 .f32) : Vec F S2048x1024 .bf16 := View.canon (strips x)

/-- The four runs of columns make up the whole scratch. -/
theorem strips_cover (x : Vec F S1024x2048 .f32) (y : S2048x1024.Idx) : ∃ p ∈ strips x, y ∈ p.1.set :=
  View.cover_of_tiledL (strips x) S2048x256.size (by sl_kernel_rfl) y

/-- Both offsets of a whole block are zero. -/
theorem zeros : (![0, 0] : Fin 2 → ℕ) = fun _ => 0 := by decide

/-- A buffer stored whole reads back what was stored, whatever it held. -/
theorem read_stored {sg : RefSig} {κ : Kind} {sp : Space} {s : Shape} {e : EltTy} (v : View sg κ sp s e) (f : v.ty.Contents (Elt F))
    {off : Fin s.rank → ℕ} (hz : off = fun _ => 0) (inb : ∀ a, off a + s.size a ≤ s.size a) (w : s.Idx → Elt F e) :
    v.read (Elt F) (v.writes (Elt F) f [⟨Rect.unit off s.size inb, w⟩]) = w :=
  (View.read_writes_eq_canon v f _ fun y => ⟨_, List.mem_singleton_self _, View.mem_set_unit_zero hz inb y⟩).trans
    (View.canon_unit_zero hz inb w)

set_option maxHeartbeats 1000000 in
/-- The body where a new weight block begins: the scratch is filled with the transposed block, and both products are
    taken with it. -/
theorem run_begin (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S8x2048 .bf16) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S2048x1024 .bf16) (harg7 : arg7.IsWhole) (hc : k0_cond1 i = 1#1)
    (x0 : Vec F S1024x2048 .bf16) (x1 : Vec F S1024x2048 .f32) (x2 : Vec F S8x2048 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 (turned x1)) ∗ owns (c : Thread nD τ) arg6 fullShare (k0_pay6 x2 (turned x1)) ∗ owns (c : Thread nD τ) arg7 fullShare (turned x1)) -∗ K ⟨⟩))
      ⊢ wp frame (wpE (defs₀ (F := F)) Variants.none c none) E (cc0_proj i arg2 harg2 arg3 harg3 arg4 harg4 arg5 harg5 arg6 harg6 arg7 harg7) K := by
  simp only [cc0_proj_eq_skeleton]; unfold cc0_proj_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d7, %f7, -, H7⟩, Hk⟩
  subst hf0 hf1 hf2
  sl_exec (disch := sl_exact hc)
  sl_step
  iapply Hk
  have again : run_begin.sl.v4 c arg3 arg7 f1 = turned (arg3.view.read (Elt F) f1) :=
    (View.readCov_eq_canon_ld _ _ _ (strips_cover (arg3.view.read (Elt F) f1))).trans (View.ld_unit_zero zeros _ _)
  have once : run_begin.sl.v36 c arg3 arg7 f1 = turned (arg3.view.read (Elt F) f1) :=
    (View.readCov_eq_canon_ld _ _ _ (strips_cover (arg3.view.read (Elt F) f1))).trans (View.ld_unit_zero zeros _ _)
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_stored _ _ zeros _ _).trans ?_
    rw [again]
    exact congrArg (k0_pay1 · _) (View.ld_unit_zero zeros _ _)
  isplitl [H4]
  · iexists _; isplitr
    swap; · iexact H4
    ipureintro
    refine (read_stored _ _ zeros _ _).trans ?_
    rw [once]
    exact congrArg (k0_pay6 · _) (View.ld_unit_zero zeros _ _)
  iexists _; isplitr
  swap; · iexact H7
  ipureintro
  exact View.read_writes_eq_canon _ _ _ (strips_cover (arg3.view.read (Elt F) f1))

set_option maxHeartbeats 1000000 in
/-- The body at the other points of a weight block: the scratch is read as it is, and only the rows' product is stored. -/
theorem run_within (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S8x2048 .bf16) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S2048x1024 .bf16) (harg7 : arg7.IsWhole) (hc : ¬k0_cond1 i = 1#1)
    (x0 : Vec F S1024x2048 .bf16) (xs : Vec F S2048x1024 .bf16) (K : PUnit → sProp (MT nD τ sig Unit (Elt F) ℕ (UR sig nD τ) ℕ)) :
    iprop(owns (c : Thread nD τ) arg2 fullShare x0 ∗ (∃ d, owns (c : Thread nD τ) arg5 fullShare d) ∗ owns (c : Thread nD τ) arg7 fullShare xs
        ∗ (iprop(owns (c : Thread nD τ) arg2 fullShare x0 ∗ owns (c : Thread nD τ) arg5 fullShare (k0_pay1 x0 xs) ∗ owns (c : Thread nD τ) arg7 fullShare xs) -∗ K ⟨⟩))
      ⊢ wp frame (wpE (defs₀ (F := F)) Variants.none c none) E (cc0_proj i arg2 harg2 arg3 harg3 arg4 harg4 arg5 harg5 arg6 harg6 arg7 harg7) K := by
  simp only [cc0_proj_eq_skeleton]; unfold cc0_proj_skel
  unfold owns
  iintro ⟨⟨%f0, %hf0, H0⟩, ⟨%d3, %f3, -, H3⟩, ⟨%f7, %hf7, H7⟩, Hk⟩
  subst hf0 hf7
  sl_exec (disch := sl_exact hc)
  sl_step
  iapply Hk
  isplitl [H0]
  · iexists f0; isplitr; · ipureintro; rfl
    iexact H0
  isplitl [H3]
  · iexists _; isplitr
    swap; · iexact H3
    ipureintro
    refine (read_stored _ _ zeros _ _).trans ?_
    exact congrArg₂ k0_pay1 (View.ld_unit_zero zeros _ _) (View.ld_unit_zero zeros _ _)
  iexists f7; isplitr; · ipureintro; rfl
  iexact H7

/-! ## Where a weight block begins, and what is held in between -/

/-- The first point of the weight block that point `n` works on. -/
def home (n : ℕ) : Fin cfg0.N := ⟨8 * (n / 8) % 80, lt_of_lt_of_eq (Nat.mod_lt _ (by decide)) N_0.symm⟩

/-- At its first point a weight block is at home. -/
theorem home_self (t : Fin cfg0.N) (h : t.val % 8 = 0) : home t.val = t := by
  have ht : t.val < 80 := lt_of_lt_of_eq t.isLt N_0
  apply Fin.ext; unfold home; dsimp only; omega

/-- The next point, unless it begins a block, has the same home. -/
theorem home_pred (n : ℕ) (h : ¬n % 8 = 0) : home (n - 1) = home n := by
  apply Fin.ext; unfold home; dsimp only; rw [show (n - 1) / 8 = n / 8 by omega]

/-- The condition of the body holds at a block's first point only. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- So the samples' block is idle at every other point. -/
theorem idle_eq (t : Fin cfg0.N) : cfg0.idle 4 (grid0.coords t) = !decide (t.val % 8 = 0) := by
  show (!(k0_cond1 (grid0.coords t) == 1#1)) = _
  have h := cond_iff t
  by_cases h0 : t.val % 8 = 0
  · rw [h.mpr h0]; simp [h0]
  · rw [show (k0_cond1 (grid0.coords t) == 1#1) = false from beq_false_of_ne fun e => h0 (h.mp e)]; simp [h0]

/-- Inside a weight block the samples' buffer still holds what the block's first point stored. -/
theorem held_over : ∀ n : ℕ, n < cfg0.N → ¬n % 8 = 0 → cfg0.fresh 4 n = false
  | 0, _, h => absurd rfl h
  | n + 1, hn, h => by
    have hn' : n < cfg0.N := by omega
    rw [Pipeline.Cfg.fresh_succ cfg0 4 n hn', show (cfg0.win 4).flush ⟨n, hn'⟩ = false from
      Bool.eq_false_iff.mpr fun e => by have := (flush0_4 ⟨n, hn'⟩).mp e; dsimp only at this; omega]
    have hi := idle_eq ⟨n, hn'⟩
    rw [show cfg0.idle 4 (cfg0.grid.coords ⟨n, hn'⟩) = !decide (n % 8 = 0) from hi]
    by_cases h0 : n % 8 = 0
    · simp [h0]
    · rw [held_over n hn' h0]; simp

/-- What the scratch holds from the first point of the weight block of point `n` on. -/
def scr (c : Dev nD) (n : ℕ) : Vec F S2048x1024 .bf16 := turned (X0_1 m c (home n))

/-- What is known between points: before the first point nothing of the scratch, afterwards the transposed weight block. -/
def Between (c : Dev nD) : ℕ → sProp (MT nD τ sig Unit (Elt F) ℕ (UR sig nD τ) ℕ)
  | 0 => Pipeline.ΦA spec0 c
  | n + 1 => iprop(owns (c : Thread nD τ) (Memref.whole cc0_scratch0) fullShare (scr m c n) ∗ (∃ r, prngReg c r))

/-- The proof data: inputs stay at their blocks, the rows' block is their product with the transposed weight block, the
    samples' block the samples' product with it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => k0_pay1 (iblk m c 0 t) (scr m c t.val)
    | ⟨4, _⟩ => k0_pay6 (iblk m c 2 (home t.val)) (scr m c t.val)
  Φ t := Between m c t.val
  q _ := fullShare
  owed _ := 0

/-- The arrays are as the region finds them. -/
theorem A_eq (c : Dev nD) (w : Fin cfg0.W) : (dats m 0 c).A w = V m c (Pipeline.arrRef spec0 w) := by dsimp only [dats]
/-- The rows' buffer after the body. -/
theorem after_0 (c : Dev nD) (t : Fin cfg0.N) : (dats m 0 c).after 0 t = iblk m c 0 t := by dsimp only [dats]
/-- The weights' buffer after the body. -/
theorem after_1 (c : Dev nD) (t : Fin cfg0.N) : (dats m 0 c).after 1 t = X0_1 m c t := by dsimp only [dats]
/-- The samples' buffer after the body. -/
theorem after_2 (c : Dev nD) (t : Fin cfg0.N) : (dats m 0 c).after 2 t = iblk m c 2 t := by dsimp only [dats]
/-- The rows' product after the body. -/
theorem after_3 (c : Dev nD) (t : Fin cfg0.N) : (dats m 0 c).after 3 t = k0_pay1 (iblk m c 0 t) (scr m c t.val) := by dsimp only [dats]
/-- The samples' product after the body. -/
theorem after_4 (c : Dev nD) (t : Fin cfg0.N) : (dats m 0 c).after 4 t = k0_pay6 (iblk m c 2 (home t.val)) (scr m c t.val) := by dsimp only [dats]

/-- The samples' product does not change inside a weight block. -/
theorem after_4_pred (c : Dev nD) (t : Fin cfg0.N) (h : ¬t.val % 8 = 0) :
    (dats m 0 c).after 4 t = (dats m 0 c).after 4 ⟨t.val - 1, by omega⟩ := by
  rw [after_4, after_4]; unfold scr; dsimp only; rw [home_pred _ h]

/-- Inside a weight block the body finds the samples' product of the block's first point. -/
theorem before_4 (c : Dev nD) (t : Fin cfg0.N) (h : ¬t.val % 8 = 0) (d) : (dats m 0 c).before 4 t d = (dats m 0 c).after 4 t := by
  rw [Dat.before_out_traj _ 4 rfl (fun _ _ => rfl) (fun t _ hi _ => after_4_pred m c t fun h0 => by
    rw [show cfg0.idle 4 (cfg0.grid.coords t) = !decide (t.val % 8 = 0) from idle_eq t, h0] at hi; simp at hi) t.val t rfl d,
    held_over t.val t.isLt h, after_4_pred m c t h]
  rfl

/-- The samples' product in the buffer is what the loop asks for, at a point that stores it and at one that keeps it. -/
theorem leaves_4 (c : Dev nD) (t : Fin cfg0.N) :
    owns (c : Thread nD τ) ((cfg0.win 4).stage (cfg0.slots t 4)) fullShare ((dats m 0 c).after 4 t) ⊢ (dats m 0 c).leavesExact 4 t := by
  by_cases h : t.val % 8 = 0
  · unfold Dat.leavesExact
    rw [show cfg0.idle 4 (cfg0.grid.coords t) = false by rw [show cfg0.idle 4 (cfg0.grid.coords t) = _ from idle_eq t, h]; rfl]
  · cases hf : (cfg0.win 4).flush t with
    | false =>
      rw [Dat.leavesExact_idle _ 4 t (by rw [show cfg0.idle 4 (cfg0.grid.coords t) = _ from idle_eq t]; simp [h]) hf]
      iintro H
      iexists (dats m 0 c).after 4 t
      rw [before_4 m c t h]
      iexact H
    | true =>
      unfold Dat.leavesExact
      rw [hf, show cfg0.idle 4 (cfg0.grid.coords t) = true by rw [show cfg0.idle 4 (cfg0.grid.coords t) = _ from idle_eq t]; simp [h]]

/-- A buffer the loop never finds idle is left at what the proof data say. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The launch's scratch and generator, as the body takes them. -/
theorem launched (c : Dev nD) : (Pipeline.ΦA spec0 c : sProp (MT nD τ sig Unit (Elt F) ℕ (UR sig nD τ) ℕ))
    = iprop((∃ d, owns (c : Thread nD τ) (Memref.whole cc0_scratch0) fullShare d) ∗ (∃ r, prngReg c r)) := by
  unfold Pipeline.ΦA; rw [scopedRest0_eq]; simp only [owns_whole]

/-- Whatever is known between points, the scratch is there at some contents. -/
theorem between_weaken (c : Dev nD) (n : ℕ) : Between m c n ⊢ Pipeline.ΦA spec0 c := by
  cases n with
  | zero => exact .rfl
  | succ n =>
    rw [launched]; unfold Between
    iintro ⟨H, Hg⟩
    isplitl [H]
    · iexists _; iexact H
    iexact Hg

set_option maxHeartbeats 1600000 in
/-- The body at any point takes what is known before the point to what is known after it. -/
theorem step (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t) := by
  have b0 := before0_0_of m (dats m 0 c) (A_eq m c 0) (after_0 m c) t
  have b1 := before0_1_of m (dats m 0 c) (A_eq m c 1) (after_1 m c) t
  have b2 := before0_2_of m (dats m 0 c) (A_eq m c 2) (after_2 m c) t
  simp only [b0, b1, b2]
  rw [show (dats m 0 c).owesAt () t.succ = (dats m 0 c).owesAt () t.castSucc from rfl,
    show (dats m 0 c).Φ t.succ = iprop(owns (c : Thread nD τ) (Memref.whole cc0_scratch0) fullShare (scr m c t.val) ∗ (∃ r, prngReg c r)) from rfl,
    show (dats m 0 c).Φ t.castSucc = Between m c t.val from rfl,
    leaves_live m c 0 t rfl, leaves_live m c 1 t rfl, leaves_live m c 2 t rfl, leaves_live m c 3 t rfl,
    after_0, after_1, after_2, after_3]
  by_cases h : t.val % 8 = 0
  · refine (sep_mono_l ((between_weaken m c t.val).trans (launched c).le)).trans ?_
    show iprop(((∃ d, owns (c : Thread nD τ) (Memref.whole cc0_scratch0) fullShare d) ∗ (∃ r, prngReg c r)) ∗ _) ⊢ _
    have e4 := after_4 m c t
    unfold scr
    unfold scr at e4
    rw [home_self t h] at e4
    rw [home_self t h]
    iintro ⟨⟨Hs, Hg⟩, Ho, ⟨%d0, H0⟩, ⟨%d1, H1⟩, ⟨%d2, H2⟩, ⟨%d3, H3⟩, ⟨%d4, H4⟩⟩
    iapply (run_begin c Set.univ (grid0.coords t) _ _ _ _ _ _ _ _ _ _ _ _ ((cond_iff t).mpr h) (iblk m c 0 t) (X0_1 m c t) (iblk m c 2 t) _)
    isplitl [H0]; · iexact H0
    isplitl [H1]; · iexact H1
    isplitl [H2]; · iexact H2
    isplitl [H3]; · iexists _; iexact H3
    isplitl [H4]; · iexists _; iexact H4
    isplitl [Hs]; · iexact Hs
    iintro ⟨H0, H1, H2, H3, H4, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    iapply (leaves_4 m c t)
    rw [e4]
    iexact H4
  · obtain ⟨n, hn⟩ : ∃ n, t.val = n + 1 := ⟨t.val - 1, by omega⟩
    have same : scr m c n = scr m c t.val := by
      unfold scr; rw [← home_pred t.val h, hn]; rfl
    rw [show Between m c t.val = iprop(owns (c : Thread nD τ) (Memref.whole cc0_scratch0) fullShare (scr m c t.val) ∗ (∃ r, prngReg c r)) by
      rw [← same, hn]; rfl]
    simp only [before_4 m c t h]
    iintro ⟨⟨Hs, Hg⟩, Ho, ⟨%d0, H0⟩, ⟨%d1, H1⟩, ⟨%d2, H2⟩, ⟨%d3, H3⟩, ⟨%d4, H4⟩⟩
    iapply (run_within c Set.univ (grid0.coords t) _ _ _ _ _ _ _ _ _ _ _ _ (fun e => h ((cond_iff t).mp e)) (iblk m c 0 t) (scr m c t.val) _)
    isplitl [H0]; · iexact H0
    isplitl [H3]; · iexists _; iexact H3
    isplitl [Hs]; · iexact Hs
    iintro ⟨H0, H3, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    iapply (leaves_4 m c t)
    iexact H4

/-- The loop's obligation on the body. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (step m c t) rfl .rfl fun _ => .rfl

set_option backward.isDefEq.respectTransparency.types false in
/-- Every run of the program ends, with the windows' arrays at what the proof data say, every other array as launched,
    and no semaphore held. -/
theorem ends : θ_run defs (onTc (τ := τ) (main (F := F))) (s₀ m ρ) fun r => Pipeline.FramePost cfgs (dats m) 0 (V m) r ∧ r.2.sem = fun _ => 0 :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun c => between_weaken m c cfg0.N)

/-- The program runs, its arguments end unchanged, and no semaphore is held. -/
theorem quiescent : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  θ_run_and (frame_of m ρ (dats m) (A_eq m) ((θ_run defs _ _).mono (fun _ h => h.1) (ends m ρ)))
    ((θ_run defs _ _).mono (fun _ h => h.2) (ends m ρ))

end Cert.ProjIdeal.Body

end
-- ==== Proof.ProjValue.lean ====
module

public import proofs.«01_k».proof.Proof.LayerSpec
public import proofs.«01_k».proof.Proof.ProjBody
public import proofs.«01_k».proof.Proof.Gen.ProjReferenceIdeal.Run
public import Idealize.ShloMosaic.Lib.Pipeline.ValueKit
public import Idealize.ShloMosaic.Lib.StableHlo.ReadAt

/-! The input projection over the extended reals: the kernel's blocks and the reference's arrays. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ProjIdeal.Steps

open Cert.ProjIdeal Cert.ProjIdeal.Gen Cert.ProjIdeal.Body
open Cert.Layer

/-- One entry of the projection: a row of the normed input through a column of the input weights. -/
def entry {r : ℕ} (a : (⟨2, ![r, 2048]⟩ : Shape).Idx → EReal) (w : S1x2048x23088.Idx → EReal) (p : Fin r) (n : Fin 23088) : EReal :=
  dotRow (fun k => a (ix2 p k)) (fun k n => w (ix3 0 k n)) n

/-- The first 10240 columns of the projection. -/
def firstCols {r : ℕ} (a : (⟨2, ![r, 2048]⟩ : Shape).Idx → EReal) (w : S1x2048x23088.Idx → EReal) :
    (⟨2, ![r, 10240]⟩ : Shape).Idx → EReal :=
  fun y => entry a w (y 0) ⟨(y 1).val, (show (y 1).val < 10240 from (y 1).isLt).trans (by omega)⟩

/-- The scratch is the weight block transposed. -/
theorem turned_apply (x : Vec Ideal S1024x2048 .f32) (k : Fin 2048) (n : Fin 1024) :
    turned x (ix2 k n) = (x (ix2 n k) : EReal) := by
  refine View.canon_apply_of_pieces (Val := Elt Ideal) (e := .bf16) (fun y : S2048x1024.Idx => x (ix2 (y 1) (y 0))) (strips x) (fun q hq z => ?_) _ (strips_cover x _)
  simp only [strips, List.mem_cons, List.not_mem_nil, or_false] at hq
  rcases hq with rfl | rfl | rfl | rfl <;>
  · obtain ⟨k, n, rfl⟩ : ∃ (k : Fin 2048) (n : Fin 256), z = ix2 k n := ⟨z 0, z 1, eq_ix2 z⟩
    pointwise [k0_pay2, k0_pay3, k0_pay4, k0_pay5]
    refine congrArg x (congrArg₂ ix2 (Fin.ext ?_) (Fin.ext ?_)) <;>
      simp [ValueKit.rect_emb_unit_val]

/-- A block of the rows' product at an index. -/
theorem rows_apply (a : Vec Ideal S1024x2048 .bf16) (b : Vec Ideal S2048x1024 .bf16) (p n : Fin 1024) :
    k0_pay1 a b (ix2 p n) = (dotRow (fun k => a (ix2 p k)) (fun k n => b (ix2 k n)) n : EReal) := by
  pointwise [k0_pay1, dotRow]

/-- A block of the samples' product at an index. -/
theorem samples_apply (a : Vec Ideal S8x2048 .bf16) (b : Vec Ideal S2048x1024 .bf16) (p : Fin 8) (n : Fin 1024) :
    k0_pay6 a b (ix2 p n) = (dotRow (fun k => a (ix2 p k)) (fun k n => b (ix2 k n)) n : EReal) := by
  pointwise [k0_pay6, dotRow]

variable (m : (ℓ : Loc nD τ sig) → Buf (Elt Ideal) ℓ) (c : Dev nD)

/-- The block indices at every step. -/
theorem idx : ∀ t : Fin cfg0.N,
    win0_0.index t = ![t.val % 8, 0] ∧ win0_1.index t = ![t.val / 8, 0] ∧ win0_2.index t = ![0, 0]
    ∧ win0_3.index t = ![t.val % 8, t.val / 8] ∧ win0_4.index t = ![0, t.val / 8] :=
  (by decide +kernel : ∀ t : Fin grid0.N,
    win0_0.index t = ![t.val % 8, 0] ∧ win0_1.index t = ![t.val / 8, 0] ∧ win0_2.index t = ![0, 0]
    ∧ win0_3.index t = ![t.val % 8, t.val / 8] ∧ win0_4.index t = ![0, t.val / 8])

/-- There are 80 steps. -/
theorem lt80 (t : Fin cfg0.N) : t.val < 80 := lt_of_lt_of_eq t.isLt N_0

/-- The weights as the call takes them: transposed. -/
theorem w_entry (k : Fin 2048) (n : Fin 23088) : V m c main_v1 (ix2 n k) = m ((c : Thread nD τ).loc main_arg1) (ix3 0 k n) := by
  unfold V
  after_reads_at

section
variable (t : Fin cfg0.N) (k : Fin 2048)

/-- The blocks at a step, as entries of the arguments. -/
theorem h_block (p : Fin 1024) : iblk m c 0 t (ix2 p k)
    = m ((c : Thread nD τ).loc main_arg0) (ix2 ⟨t.val % 8 * 1024 + p.val, by omega⟩ k) := by
  blk_ext [iblk, V, idx t]
theorem w_block (n : Fin 1024) : X0_1 m c t (ix2 n k)
    = m ((c : Thread nD τ).loc main_arg1) (ix3 0 k ⟨t.val / 8 * 1024 + n.val, by have := lt80 t; omega⟩) := by
  have := lt80 t
  unfold X0_1 Pipeline.Window.fill
  rw [dif_pos (moved0_1 t _)]
  refine Eq.trans ?_ (w_entry m c k _)
  blk_ext [iblk, idx t]
theorem s_block (p : Fin 8) : iblk m c 2 t (ix2 p k) = m ((c : Thread nD τ).loc main_arg2) (ix2 p k) := by
  blk_ext [iblk, V, idx t]

/-- The scratch at a step: a run of 1024 columns of the weights. -/
theorem scr_apply (n : Fin 1024) : scr m c t.val (ix2 k n)
    = (m ((c : Thread nD τ).loc main_arg1) (ix3 0 k ⟨t.val / 8 * 1024 + n.val, by have := lt80 t; omega⟩) : EReal) := by
  have := lt80 t
  unfold scr
  rw [turned_apply, w_block]
  congr 2
  unfold home
  apply Fin.ext
  dsimp only
  omega
end

/-- The rows' result: the first columns of their projection. -/
theorem rows_final : (dats m 0 c).arrAt 3 cfg0.N
    = firstCols (m ((c : Thread nD τ).loc main_arg0)) (m ((c : Thread nD τ).loc main_arg1)) := by
  refine (dats m 0 c).arrAt_eq_of_covers 3 _ (by decide +kernel) fun t hf y => ?_
  obtain ⟨p, n, rfl⟩ : ∃ (p : Fin 1024) (n : Fin 1024), y = ix2 p n := ⟨y 0, y 1, eq_ix2 y⟩
  have := lt80 t
  have h0 : (((cfg0.win 3).blk t).view.emb (ix2 p n)) 0 = (⟨t.val % 8 * 1024 + p.val, by omega⟩ : Fin 8192) :=
    Fin.ext (by blk_simp [idx t])
  have h1 : (((cfg0.win 3).blk t).view.emb (ix2 p n)) 1 = (⟨t.val / 8 * 1024 + n.val, by omega⟩ : Fin 10240) :=
    Fin.ext (by blk_simp [idx t])
  unfold firstCols
  simp only [h0, h1]
  refine Eq.trans (b := k0_pay1 (iblk m c 0 t) (scr m c t.val) (ix2 p n)) (by blk_simp; rw [after_3]) ?_
  rw [rows_apply]
  simp only [h_block, scr_apply]
  rfl

/-- The samples' result: the first columns of their projection. -/
theorem samples_final : (dats m 0 c).arrAt 4 cfg0.N
    = firstCols (m ((c : Thread nD τ).loc main_arg2)) (m ((c : Thread nD τ).loc main_arg1)) := by
  refine (dats m 0 c).arrAt_eq_of_covers 4 _ (by decide +kernel) fun t hf y => ?_
  obtain ⟨p, n, rfl⟩ : ∃ (p : Fin 8) (n : Fin 1024), y = ix2 p n := ⟨y 0, y 1, eq_ix2 y⟩
  have := lt80 t
  have h0 : (((cfg0.win 4).blk t).view.emb (ix2 p n)) 0 = p := Fin.ext (by blk_simp [idx t])
  have h1 : (((cfg0.win 4).blk t).view.emb (ix2 p n)) 1 = (⟨t.val / 8 * 1024 + n.val, by omega⟩ : Fin 10240) :=
    Fin.ext (by blk_simp [idx t])
  unfold firstCols
  simp only [h0, h1]
  refine Eq.trans (b := k0_pay6 (iblk m c 2 (home t.val)) (scr m c t.val) (ix2 p n)) (by blk_simp; rw [after_4]) ?_
  rw [samples_apply]
  simp only [s_block, scr_apply]
  rfl

/-- The kernel's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v2_0) = firstCols (m ((c : Thread nD τ).loc main_arg0)) (m ((c : Thread nD τ).loc main_arg1))
      ∧ r.2.mem ((c : Thread nD τ).loc main_v2_1) = firstCols (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1.1 c).1 3).trans (rows_final m c), ((h.1.1 c).1 4).trans (samples_final m c), h.2.1 c⟩)
    (θ_run_and (ends m ρ) (quiescent m ρ))

end Cert.ProjIdeal.Steps

namespace Cert.ProjReferenceIdeal.Steps

open Cert.ProjReferenceIdeal Cert.ProjReferenceIdeal.Gen
open Cert.Layer Cert.ProjIdeal.Steps

variable (m : (ℓ : Loc nD τ sig) → Buf (Elt Ideal) ℓ)

/-- The rows' projection at an index. -/
theorem rows_apply (a : Vec Ideal S8192x2048 .bf16) (w : Vec Ideal S1x2048x23088 .f32) (p : Fin 8192) (n : Fin 23088) :
    Host.dotGeneral (F := Ideal) (φ₁ := .f32) (φ₂ := .f32) dot_S8192x2048_S2048x23088_S8192x23088_1_0_0_1_n_n none
        (extf .f32 a bitsLt_bf16_f32) (shapeCast _ w shapeCasts_S1x2048x23088_S2048x23088) (ix2 p n)
      = entry a w p n := by
  pointwise [entry, dotRow]

/-- The samples' projection at an index. -/
theorem samples_apply (a : Vec Ideal S8x2048 .bf16) (w : Vec Ideal S1x2048x23088 .f32) (p : Fin 8) (n : Fin 23088) :
    Host.dotGeneral (F := Ideal) (φ₁ := .f32) (φ₂ := .f32) dot_S8x2048_S2048x23088_S8x23088_1_0_0_1_n_n none
        (extf .f32 a bitsLt_bf16_f32) (shapeCast _ w shapeCasts_S1x2048x23088_S2048x23088) (ix2 p n)
      = entry a w p n := by
  pointwise [entry, dotRow]

/-- The first columns of the rows. -/
theorem rows_slice (z : Vec Ideal S8192x23088 .f32) (p : Fin 8192) (n : Fin 10240) :
    extractStridedSlice S8192x10240 ![0, 0] z slices_S8192x23088_S8192x10240_0_0 (ix2 p n) = z (ix2 p ⟨n.val, by omega⟩) := by
  pointwise []

/-- The first columns of the samples. -/
theorem samples_slice (z : Vec Ideal S8x23088 .f32) (p : Fin 8) (n : Fin 10240) :
    extractStridedSlice S8x10240 ![0, 0] z slices_S8x23088_S8x10240_0_0 (ix2 p n) = z (ix2 p ⟨n.val, by omega⟩) := by
  pointwise []

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v5) = firstCols (m ((c : Thread nD τ).loc main_arg0)) (m ((c : Thread nD τ).loc main_arg1))
      ∧ r.2.mem ((c : Thread nD τ).loc main_v6) = firstCols (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, ?_, (h c).2.2⟩) (Value.run m ρ)
  · rw [(h c).1]
    funext y
    obtain ⟨p, n, rfl⟩ : ∃ (p : Fin 8192) (n : Fin 10240), y = ix2 p n := ⟨y 0, y 1, eq_ix2 y⟩
    exact (rows_slice _ p n).trans (rows_apply _ _ _ _)
  · rw [(h c).2.1]
    funext y
    obtain ⟨p, n, rfl⟩ : ∃ (p : Fin 8) (n : Fin 10240), y = ix2 p n := ⟨y 0, y 1, eq_ix2 y⟩
    exact (samples_slice _ p n).trans (samples_apply _ _ _ _)

end Cert.ProjReferenceIdeal.Steps
-- ==== Proof.TailBody.lean ====
module

public import proofs.«01_k».proof.Proof.Gen.TailIdeal.Frame
public import proofs.«01_k».proof.Proof.Gen.TailIdeal.Skeleton
public import proofs.«01_k».proof.Proof.ProjBody

/-! The remaining columns' projection at any reading of the floats. Its last column tile differs: half of the scratch is filled
from the gates' weights, which the host lays out apart. Tiles and steps are counted as in the first projection. -/

@[expose] public section

set_option maxRecDepth 16384

noncomputable section

namespace Cert.TailIdeal.Body

open Cert.TailIdeal Cert.TailIdeal.Gen
open Cert.ProjIdeal.Body (zeros read_stored home home_self home_pred)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- The stores that fill the scratch, last first: four runs of 256 columns from the weight block, or on the last tile two
    of them and a run of 512 from the gates' weights. -/
def pieces (last : Bool) (x : Vec F S1024x2048 .f32) (u : Vec F S512x2048 .f32) : List (View.Piece (Elt F) S2048x1024 .bf16) :=
  bif last then
    [⟨Rect.unit ![0, 512] S2048x512.size inb_S2048x1024_S2048x512_0_512, k0_pay3 (View.ld u (Rect.unit ![0, 0] S512x2048.size inb_S512x2048_S512x2048_0_0))⟩,
     ⟨Rect.unit ![0, 256] S2048x256.size inb_S2048x1024_S2048x256_0_256, k0_pay2 (View.ld x (Rect.unit ![256, 0] S256x2048.size inb_S1024x2048_S256x2048_256_0))⟩,
     ⟨Rect.unit ![0, 0] S2048x256.size inb_S2048x1024_S2048x256_0_0, k0_pay1 (View.ld x (Rect.unit ![0, 0] S256x2048.size inb_S1024x2048_S256x2048_0_0))⟩]
  else
    [⟨Rect.unit ![0, 768] S2048x256.size inb_S2048x1024_S2048x256_0_768, k0_pay9 (View.ld x (Rect.unit ![768, 0] S256x2048.size inb_S1024x2048_S256x2048_768_0))⟩,
     ⟨Rect.unit ![0, 512] S2048x256.size inb_S2048x1024_S2048x256_0_512, k0_pay8 (View.ld x (Rect.unit ![512, 0] S256x2048.size inb_S1024x2048_S256x2048_512_0))⟩,
     ⟨Rect.unit ![0, 256] S2048x256.size inb_S2048x1024_S2048x256_0_256, k0_pay7 (View.ld x (Rect.unit ![256, 0] S256x2048.size inb_S1024x2048_S256x2048_256_0))⟩,
     ⟨Rect.unit ![0, 0] S2048x256.size inb_S2048x1024_S2048x256_0_0, k0_pay6 (View.ld x (Rect.unit ![0, 0] S256x2048.size inb_S1024x2048_S256x2048_0_0))⟩]

/-- What the scratch holds once the stores are done. -/
def filled (last : Bool) (x : Vec F S1024x2048 .f32) (u : Vec F S512x2048 .f32) : Vec F S2048x1024 .bf16 := View.canon (pieces last x u)

/-- The stores make up the whole scratch. -/
theorem pieces_cover (last : Bool) (x : Vec F S1024x2048 .f32) (u : Vec F S512x2048 .f32) (y : S2048x1024.Idx) :
    ∃ p ∈ pieces last x u, y ∈ p.1.set := by
  cases last with
  | true => exact View.cover_of_tiledBy (pieces true x u) S2048x256.size (by sl_kernel_rfl) y
  | false => exact View.cover_of_tiledL (pieces false x u) S2048x256.size (by sl_kernel_rfl) y

set_option maxHeartbeats 2000000 in
/-- The body where a column tile begins: the scratch is filled, and both products are taken with it. -/
theorem run_begin (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S512x2048 .f32) (harg4 : arg4.IsWhole) (arg5 : Memref sig .tc .vmem S8x2048 .bf16) (harg5 : arg5.IsWhole) (arg6 : Memref sig .tc .vmem S1024x1024 .f32) (harg6 : arg6.IsWhole) (arg7 : Memref sig .tc .vmem S8x1024 .f32) (harg7 : arg7.IsWhole) (arg8 : Memref sig .tc .vmem S2048x1024 .bf16) (harg8 : arg8.IsWhole) (last : Bool)
    (hc : k0_cond1 i = 1#1 ↔ last = false) (hd : k0_cond2 i = 1#1 ↔ last = true)
    (x0 : Vec F S1024x2048 .bf16) (x1 : Vec F S1024x2048 .f32) (x2 : Vec F S512x2048 .f32) (x3 : Vec F S8x2048 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 x0 (filled last x1 x2)) ∗ owns (c : Thread nD τ) arg7 fullShare (k0_pay4 x3 (filled last x1 x2)) ∗ owns (c : Thread nD τ) arg8 fullShare (filled last x1 x2)) -∗ K ⟨⟩))
      ⊢ wp frame (wpE (defs₀ (F := F)) Variants.none c none) E (cc0_proj_tail i arg2 harg2 arg3 harg3 arg4 harg4 arg5 harg5 arg6 harg6 arg7 harg7 arg8 harg8) K := by
  simp only [cc0_proj_tail_eq_skeleton]; unfold cc0_proj_tail_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d8, %f8, -, H8⟩, Hk⟩
  subst hf0 hf1 hf2 hf3
  have cover := pieces_cover last (arg3.view.read (Elt F) f1) (arg4.view.read (Elt F) f2)
  cases last
  case' false =>
    have h1 := hc.mpr rfl
    have h2 : ¬k0_cond2 i = 1#1 := fun h => Bool.noConfusion (hd.mp h)
  case' true =>
    have h1 : ¬k0_cond1 i = 1#1 := fun h => Bool.noConfusion (hc.mp h)
    have h2 := hd.mpr rfl
  all_goals
    sl_exec (disch := first | sl_exact h1 | sl_exact h2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (read_stored _ _ zeros _ _).trans ?_
      exact congrArg₂ k0_pay5 (View.ld_unit_zero zeros _ _)
        ((View.readCov_eq_canon_ld _ _ _ cover).trans (View.ld_unit_zero zeros _ _))
    isplitl [H5]
    · iexists _; isplitr
      swap; · iexact H5
      ipureintro
      refine (read_stored _ _ zeros _ _).trans ?_
      exact congrArg₂ k0_pay4 (View.ld_unit_zero zeros _ _)
        ((View.readCov_eq_canon_ld _ _ _ cover).trans (View.ld_unit_zero zeros _ _))
    iexists _; isplitr
    swap; · iexact H8
    ipureintro
    exact View.read_writes_eq_canon _ _ _ cover

set_option maxHeartbeats 1000000 in
/-- The body at the other steps of a tile: the scratch is read as it is, and only the rows' product is stored. -/
theorem run_within (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S512x2048 .f32) (harg4 : arg4.IsWhole) (arg5 : Memref sig .tc .vmem S8x2048 .bf16) (harg5 : arg5.IsWhole) (arg6 : Memref sig .tc .vmem S1024x1024 .f32) (harg6 : arg6.IsWhole) (arg7 : Memref sig .tc .vmem S8x1024 .f32) (harg7 : arg7.IsWhole) (arg8 : Memref sig .tc .vmem S2048x1024 .bf16) (harg8 : arg8.IsWhole) (hc : ¬k0_cond1 i = 1#1) (hd : ¬k0_cond2 i = 1#1)
    (x0 : Vec F S1024x2048 .bf16) (xs : Vec F S2048x1024 .bf16) (K : PUnit → sProp (MT nD τ sig Unit (Elt F) ℕ (UR sig nD τ) ℕ)) :
    iprop(owns (c : Thread nD τ) arg2 fullShare x0 ∗ (∃ d, owns (c : Thread nD τ) arg6 fullShare d) ∗ owns (c : Thread nD τ) arg8 fullShare xs
        ∗ (iprop(owns (c : Thread nD τ) arg2 fullShare x0 ∗ owns (c : Thread nD τ) arg6 fullShare (k0_pay5 x0 xs) ∗ owns (c : Thread nD τ) arg8 fullShare xs) -∗ K ⟨⟩))
      ⊢ wp frame (wpE (defs₀ (F := F)) Variants.none c none) E (cc0_proj_tail i arg2 harg2 arg3 harg3 arg4 harg4 arg5 harg5 arg6 harg6 arg7 harg7 arg8 harg8) K := by
  simp only [cc0_proj_tail_eq_skeleton]; unfold cc0_proj_tail_skel
  unfold owns
  iintro ⟨⟨%f0, %hf0, H0⟩, ⟨%d4, %f4, -, H4⟩, ⟨%f8, %hf8, H8⟩, Hk⟩
  subst hf0 hf8
  sl_exec (disch := first | sl_exact hc | sl_exact hd)
  sl_step
  iapply Hk
  isplitl [H0]
  · iexists f0; isplitr; · ipureintro; rfl
    iexact H0
  isplitl [H4]
  · iexists _; isplitr
    swap; · iexact H4
    ipureintro
    refine (read_stored _ _ zeros _ _).trans ?_
    exact congrArg₂ k0_pay5 (View.ld_unit_zero zeros _ _) (View.ld_unit_zero zeros _ _)
  iexists f8; isplitr; · ipureintro; rfl
  iexact H8

/-! ## Where a column tile begins, and what is held in between -/

/-- The two conditions of the body: a tile's first step, of the first nine tiles and of the last. -/
theorem cond_iff : ∀ t : Fin cfg0.N, (k0_cond1 (grid0.coords t) = 1#1 ↔ t.val % 8 = 0 ∧ t.val < 72)
    ∧ (k0_cond2 (grid0.coords t) = 1#1 ↔ t.val % 8 = 0 ∧ 72 ≤ t.val) :=
  (by decide +kernel : ∀ t : Fin grid0.N, (k0_cond1 (grid0.coords t) = 1#1 ↔ t.val % 8 = 0 ∧ t.val < 72)
    ∧ (k0_cond2 (grid0.coords t) = 1#1 ↔ t.val % 8 = 0 ∧ 72 ≤ t.val))

/-- So the samples' block is idle at every other step. -/
theorem idle_eq : ∀ t : Fin cfg0.N, cfg0.idle 5 (grid0.coords t) = !decide (t.val % 8 = 0) :=
  (by decide +kernel : ∀ t : Fin grid0.N, (!(k0_cond1 (grid0.coords t) == 1#1) && !(k0_cond2 (grid0.coords t) == 1#1)) = !decide (t.val % 8 = 0))

/-- Inside a tile the samples' buffer still holds what the tile's first step stored. -/
theorem held_over : ∀ n : ℕ, n < cfg0.N → ¬n % 8 = 0 → cfg0.fresh 5 n = false
  | 0, _, h => absurd rfl h
  | n + 1, hn, h => by
    have hn' : n < cfg0.N := by omega
    rw [Pipeline.Cfg.fresh_succ cfg0 5 n hn', show (cfg0.win 5).flush ⟨n, hn'⟩ = false from
      Bool.eq_false_iff.mpr fun e => by have := (flush0_5 ⟨n, hn'⟩).mp e; dsimp only at this; omega]
    have hi := idle_eq ⟨n, hn'⟩
    rw [show cfg0.idle 5 (cfg0.grid.coords ⟨n, hn'⟩) = !decide (n % 8 = 0) from hi]
    by_cases h0 : n % 8 = 0
    · simp [h0]
    · rw [held_over n hn' h0]; simp

/-- What the scratch holds from a step's tile's first step on. -/
def scr (c : Dev nD) (t : Fin cfg0.N) : Vec F S2048x1024 .bf16 := filled (decide (72 ≤ t.val)) (iblk m c 1 t) (iblk m c 2 t)

/-- What is known between steps: before the first nothing of the scratch, afterwards the tile's weights, transposed. -/
def Between (c : Dev nD) : ℕ → sProp (MT nD τ sig Unit (Elt F) ℕ (UR sig nD τ) ℕ)
  | 0 => Pipeline.ΦA spec0 c
  | n + 1 => iprop(owns (c : Thread nD τ) (Memref.whole cc0_scratch0) fullShare (scr m c (home n)) ∗ (∃ r, prngReg c r))

/-- The proof data: inputs stay at their blocks, the two outputs' blocks are the products with the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (iblk m c 0 t) (scr m c (home t.val))
    | ⟨5, _⟩ => k0_pay4 (iblk m c 3 (home t.val)) (scr m c (home t.val))
  Φ t := Between m c t.val
  q _ := fullShare
  owed _ := 0

/-- The arrays are as the region finds them. -/
theorem A_eq (c : Dev nD) (w : Fin cfg0.W) : (dats m 0 c).A w = V m c (Pipeline.arrRef spec0 w) := by dsimp only [dats]
/-- The rows' buffer after the body. -/
theorem after_0 (c : Dev nD) (t : Fin cfg0.N) : (dats m 0 c).after 0 t = iblk m c 0 t := by dsimp only [dats]
/-- The weights' buffer after the body. -/
theorem after_1 (c : Dev nD) (t : Fin cfg0.N) : (dats m 0 c).after 1 t = iblk m c 1 t := by dsimp only [dats]
/-- The gates' weights' buffer after the body. -/
theorem after_2 (c : Dev nD) (t : Fin cfg0.N) : (dats m 0 c).after 2 t = iblk m c 2 t := by dsimp only [dats]
/-- The samples' buffer after the body. -/
theorem after_3 (c : Dev nD) (t : Fin cfg0.N) : (dats m 0 c).after 3 t = iblk m c 3 t := by dsimp only [dats]
/-- The rows' product after the body. -/
theorem after_4 (c : Dev nD) (t : Fin cfg0.N) : (dats m 0 c).after 4 t = k0_pay5 (iblk m c 0 t) (scr m c (home t.val)) := by dsimp only [dats]
/-- The samples' product after the body. -/
theorem after_5 (c : Dev nD) (t : Fin cfg0.N) : (dats m 0 c).after 5 t = k0_pay4 (iblk m c 3 (home t.val)) (scr m c (home t.val)) := by dsimp only [dats]

/-- The samples' product does not change inside a tile. -/
theorem after_5_pred (c : Dev nD) (t : Fin cfg0.N) (h : ¬t.val % 8 = 0) :
    (dats m 0 c).after 5 t = (dats m 0 c).after 5 ⟨t.val - 1, by omega⟩ := by
  rw [after_5, after_5]; dsimp only; rw [home_pred _ h]

/-- Inside a tile the body finds the samples' product of the block's first point. -/
theorem before_5 (c : Dev nD) (t : Fin cfg0.N) (h : ¬t.val % 8 = 0) (d) : (dats m 0 c).before 5 t d = (dats m 0 c).after 5 t := by
  rw [Dat.before_out_traj _ 5 rfl (fun _ _ => rfl) (fun t _ hi _ => after_5_pred m c t fun h0 => by
    rw [show cfg0.idle 5 (cfg0.grid.coords t) = !decide (t.val % 8 = 0) from idle_eq t, h0] at hi; simp at hi) t.val t rfl d,
    held_over t.val t.isLt h, after_5_pred m c t h]
  rfl

/-- The samples' product in the buffer is what the loop asks for, at a point that stores it and at one that keeps it. -/
theorem leaves_5 (c : Dev nD) (t : Fin cfg0.N) :
    owns (c : Thread nD τ) ((cfg0.win 5).stage (cfg0.slots t 5)) fullShare ((dats m 0 c).after 5 t) ⊢ (dats m 0 c).leavesExact 5 t := by
  by_cases h : t.val % 8 = 0
  · unfold Dat.leavesExact
    rw [show cfg0.idle 5 (cfg0.grid.coords t) = false by rw [show cfg0.idle 5 (cfg0.grid.coords t) = _ from idle_eq t, h]; rfl]
  · cases hf : (cfg0.win 5).flush t with
    | false =>
      rw [Dat.leavesExact_idle _ 5 t (by rw [show cfg0.idle 5 (cfg0.grid.coords t) = _ from idle_eq t]; simp [h]) hf]
      iintro H
      iexists (dats m 0 c).after 5 t
      rw [before_5 m c t h]
      iexact H
    | true =>
      unfold Dat.leavesExact
      rw [hf, show cfg0.idle 5 (cfg0.grid.coords t) = true by rw [show cfg0.idle 5 (cfg0.grid.coords t) = _ from idle_eq t]; simp [h]]

/-- A buffer the loop never finds idle is left at what the proof data say. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The launch's scratch and generator, as the body takes them. -/
theorem launched (c : Dev nD) : (Pipeline.ΦA spec0 c : sProp (MT nD τ sig Unit (Elt F) ℕ (UR sig nD τ) ℕ))
    = iprop((∃ d, owns (c : Thread nD τ) (Memref.whole cc0_scratch0) fullShare d) ∗ (∃ r, prngReg c r)) := by
  unfold Pipeline.ΦA; rw [scopedRest0_eq]; simp only [owns_whole]

/-- Whatever is known between points, the scratch is there at some contents. -/
theorem between_weaken (c : Dev nD) (n : ℕ) : Between m c n ⊢ Pipeline.ΦA spec0 c := by
  cases n with
  | zero => exact .rfl
  | succ n =>
    rw [launched]; unfold Between
    iintro ⟨H, Hg⟩
    isplitl [H]
    · iexists _; iexact H
    iexact Hg

set_option maxHeartbeats 1600000 in
/-- The body at any step takes what is known before it to what is known after it. -/
theorem step (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t) := by
  have b0 := before0_0_of m (dats m 0 c) (A_eq m c 0) (after_0 m c) t
  have b1 := before0_1_of m (dats m 0 c) (A_eq m c 1) (after_1 m c) t
  have b2 := before0_2_of m (dats m 0 c) (A_eq m c 2) (after_2 m c) t
  have b3 := before0_3_of m (dats m 0 c) (A_eq m c 3) (after_3 m c) t
  simp only [b0, b1, b2, b3]
  rw [show (dats m 0 c).owesAt () t.succ = (dats m 0 c).owesAt () t.castSucc from rfl,
    show (dats m 0 c).Φ t.succ = iprop(owns (c : Thread nD τ) (Memref.whole cc0_scratch0) fullShare (scr m c (home t.val)) ∗ (∃ r, prngReg c r)) from rfl,
    show (dats m 0 c).Φ t.castSucc = Between m c t.val from rfl,
    leaves_live m c 0 t rfl, leaves_live m c 1 t rfl, leaves_live m c 2 t rfl, leaves_live m c 3 t rfl, leaves_live m c 4 t rfl,
    after_0, after_1, after_2, after_3, after_4]
  have conds := cond_iff t
  by_cases h : t.val % 8 = 0
  · refine (sep_mono_l ((between_weaken m c t.val).trans (launched c).le)).trans ?_
    show iprop(((∃ d, owns (c : Thread nD τ) (Memref.whole cc0_scratch0) fullShare d) ∗ (∃ r, prngReg c r)) ∗ _) ⊢ _
    have e5 := after_5 m c t
    rw [home_self t h] at e5
    rw [home_self t h]
    unfold scr
    unfold scr at e5
    iintro ⟨⟨Hs, Hg⟩, Ho, ⟨%d0, H0⟩, ⟨%d1, H1⟩, ⟨%d2, H2⟩, ⟨%d3, H3⟩, ⟨%d4, H4⟩, ⟨%d5, H5⟩⟩
    iapply (run_begin c Set.univ (grid0.coords t) _ _ _ _ _ _ _ _ _ _ _ _ _ _ (decide (72 ≤ t.val))
      (conds.1.trans (by simp [h])) (conds.2.trans (by simp [h])) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexact Hs
    iintro ⟨H0, H1, H2, H3, H4, H5, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    rw [e5]
    iexact H5
  · rw [show Between m c t.val = iprop(owns (c : Thread nD τ) (Memref.whole cc0_scratch0) fullShare (scr m c (home t.val)) ∗ (∃ r, prngReg c r)) by
      obtain ⟨n, hn⟩ : ∃ n, t.val = n + 1 := ⟨t.val - 1, by omega⟩
      rw [← home_pred t.val h, hn]; rfl]
    simp only [before_5 m c t h]
    iintro ⟨⟨Hs, Hg⟩, Ho, ⟨%d0, H0⟩, ⟨%d1, H1⟩, ⟨%d2, H2⟩, ⟨%d3, H3⟩, ⟨%d4, H4⟩, ⟨%d5, H5⟩⟩
    iapply (run_within c Set.univ (grid0.coords t) _ _ _ _ _ _ _ _ _ _ _ _ _ _ (fun e => h (conds.1.mp e).1) (fun e => h (conds.2.mp e).1) (iblk m c 0 t) (scr m c (home t.val)) _)
    isplitl [H0]; · iexact H0
    isplitl [H4]; · iexists _; iexact H4
    isplitl [Hs]; · iexact Hs
    iintro ⟨H0, H4, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    iexact H5

/-- The loop's obligation on the body. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (step m c t) rfl .rfl fun _ => .rfl

set_option backward.isDefEq.respectTransparency.types false in
/-- Every run of the program ends, with the windows' arrays at what the proof data say, every other array as launched,
    and no semaphore held. -/
theorem ends : θ_run defs (onTc (τ := τ) (main (F := F))) (s₀ m ρ) fun r => Pipeline.FramePost cfgs (dats m) 0 (V m) r ∧ r.2.sem = fun _ => 0 :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun c => between_weaken m c cfg0.N)

/-- The program runs, its arguments end unchanged, and no semaphore is held. -/
theorem quiescent : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  θ_run_and (frame_of m ρ (dats m) (A_eq m) ((θ_run defs _ _).mono (fun _ h => h.1) (ends m ρ)))
    ((θ_run defs _ _).mono (fun _ h => h.2) (ends m ρ))

end Cert.TailIdeal.Body

end
-- ==== Proof.TailValue.lean ====
module

public import proofs.«01_k».proof.Proof.LayerSpec
public import proofs.«01_k».proof.Proof.ProjValue
public import proofs.«01_k».proof.Proof.TailBody
public import proofs.«01_k».proof.Proof.Gen.TailReferenceIdeal.Run
public import Idealize.ShloMosaic.Lib.Pipeline.ValueKit
public import Idealize.ShloMosaic.Lib.StableHlo.ReadAt
public import Idealize.ShloMosaic.Lib.KernelVsHost

/-! The remaining columns' projection over the extended reals: the kernel's blocks and the reference's arrays. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.TailIdeal.Steps

open Cert.TailIdeal Cert.TailIdeal.Gen Cert.TailIdeal.Body
open Cert.Layer
open Cert.ProjIdeal.Steps (entry)
open Cert.ProjIdeal.Body (home)

/-- The gates' columns in four groups of twelve, each group widened to 128 by zeros. -/
def gate (f : Fin 23088 → EReal) (r : Fin 512) : EReal :=
  if h : r.val % 128 < 12 then f ⟨13312 + (r.val / 128 * 12 + r.val % 128), by omega⟩ else 0

/-- The columns after the first 10240 of the projection in the order they are handed on: 2048 from column 13360, 6144 from
    16944, 1536 from 15408, and the gates' columns. -/
def pick (f : Fin 23088 → EReal) (q : Fin 10240) : EReal :=
  if h : q.val < 2048 then f ⟨13360 + q.val, by omega⟩
  else if h : q.val < 8192 then f ⟨14896 + q.val, by omega⟩
  else if h : q.val < 9728 then f ⟨7216 + q.val, by omega⟩
  else gate f ⟨q.val - 9728, by omega⟩

/-- Those columns of the projection. -/
def lastCols {r : ℕ} (a : (⟨2, ![r, 2048]⟩ : Shape).Idx → EReal) (w : S1x2048x23088.Idx → EReal) :
    (⟨2, ![r, 10240]⟩ : Shape).Idx → EReal :=
  fun y => pick (fun n => entry a w (y 0) n) (y 1)

/-- A product with columns so ordered is the product's columns so ordered. -/
theorem dot_pick (a : Fin 2048 → EReal) (w : Fin 2048 → Fin 23088 → EReal) (q : Fin 10240) :
    dotRow a (fun k q => pick (w k) q) q = pick (fun n => dotRow a w n) q := by
  by_cases h1 : q.val < 2048
  · simp only [dotRow, pick, dif_pos h1]
  by_cases h2 : q.val < 8192
  · simp only [dotRow, pick, dif_neg h1, dif_pos h2]
  by_cases h3 : q.val < 9728
  · simp only [dotRow, pick, dif_neg h1, dif_neg h2, dif_pos h3]
  by_cases h4 : (q.val - 9728) % 128 < 12
  · simp only [dotRow, pick, gate, dif_neg h1, dif_neg h2, dif_neg h3, dif_pos h4]
  · simp only [dotRow, pick, gate, dif_neg h1, dif_neg h2, dif_neg h3, dif_neg h4, mul_zero, Finset.sum_const_zero]

/-- The group and place of a gate's column, with the fill the padding writes. -/
theorem gate_fill (n : ℕ) (hn : n < 512) (f : n % 128 < 12 → EReal) :
    (if h : n / 128 < 4 ∧ n % 128 < 12 then f h.2 else (FloatOps.sitofp (F := Ideal) FTy.f32 (0#32 : BitVec 32) : EReal))
      = if h : n % 128 < 12 then f h else 0 := by
  by_cases h : n % 128 < 12
  · rw [dif_pos (⟨by omega, h⟩ : n / 128 < 4 ∧ n % 128 < 12), dif_pos h]
  · rw [dif_neg (fun e => h e.2), dif_neg h]
    simp [FloatOps.sitofp]

/-- The order of the columns as runs joined. -/
theorem pick_join (f : Fin 23088 → EReal) (q : Fin 10240) :
    (if h : q.val < 2048 then f ⟨13360 + q.val, by omega⟩
      else if h : q.val - 2048 < 6144 then f ⟨16944 + (q.val - 2048), by omega⟩
      else if h : q.val - 2048 - 6144 < 1536 then f ⟨15408 + (q.val - 2048 - 6144), by omega⟩
      else gate f ⟨q.val - 2048 - 6144 - 1536, by omega⟩) = pick f q := by
  unfold pick
  by_cases h1 : q.val < 2048
  · rw [dif_pos h1, dif_pos h1]
  rw [dif_neg h1, dif_neg h1]
  by_cases h2 : q.val < 8192
  · rw [dif_pos h2, dif_pos (by omega : q.val - 2048 < 6144)]
    exact congrArg f (Fin.ext (by dsimp only; omega))
  rw [dif_neg h2, dif_neg (by omega : ¬q.val - 2048 < 6144)]
  by_cases h3 : q.val < 9728
  · rw [dif_pos h3, dif_pos (by omega : q.val - 2048 - 6144 < 1536)]
    exact congrArg f (Fin.ext (by dsimp only; omega))
  rw [dif_neg h3, dif_neg (by omega : ¬q.val - 2048 - 6144 < 1536)]
  exact congrArg (gate f) (Fin.ext (by dsimp only; omega))

/-- The weights' row at which a column tile's block begins. -/
def off (j : ℕ) : ℕ := if j < 2 then 13360 + j * 1024 else if j < 8 then 14896 + j * 1024 else 7216 + j * 1024

/-- Inside a tile but for the second half of the last, the columns are a run from there. -/
theorem pick_run (f : Fin 23088 → EReal) (t : ℕ) (n : Fin 1024) (ht : t < 80) (h : t < 72 ∨ n.val < 512) (hq : t / 8 * 1024 + n.val < 10240)
    (ho : off (t / 8) + n.val < 23088) : pick f ⟨t / 8 * 1024 + n.val, hq⟩ = f ⟨off (t / 8) + n.val, ho⟩ := by
  unfold pick off
  dsimp only
  split_ifs <;> first | (exfalso; omega) | (refine congrArg f (Fin.ext ?_); dsimp only; omega)

/-- The second half of the last tile is the gates' columns. -/
theorem pick_gate (f : Fin 23088 → EReal) (t : ℕ) (n : Fin 1024) (h : 72 ≤ t) (hn : ¬n.val < 512) (hq : t / 8 * 1024 + n.val < 10240) :
    pick f ⟨t / 8 * 1024 + n.val, hq⟩ = gate f ⟨n.val - 512, by omega⟩ := by
  unfold pick
  dsimp only
  rw [dif_neg (by omega), dif_neg (by omega), dif_neg (by omega)]
  refine congrArg (gate f) (Fin.ext ?_)
  dsimp only
  omega

/-- On the first nine tiles the scratch is the weight block transposed. -/
theorem filled_first (x : Vec Ideal S1024x2048 .f32) (u : Vec Ideal S512x2048 .f32) (k : Fin 2048) (n : Fin 1024) :
    filled false x u (ix2 k n) = (x (ix2 n k) : EReal) := by
  refine View.canon_apply_of_pieces (Val := Elt Ideal) (e := .bf16) (fun y : S2048x1024.Idx => x (ix2 (y 1) (y 0))) (pieces false x u) (fun q hq z => ?_) _ (pieces_cover false x u _)
  simp only [pieces, cond_false, List.mem_cons, List.not_mem_nil, or_false] at hq
  rcases hq with rfl | rfl | rfl | rfl <;>
  · obtain ⟨k, n, rfl⟩ : ∃ (k : Fin 2048) (n : Fin 256), z = ix2 k n := ⟨z 0, z 1, eq_ix2 z⟩
    pointwise [k0_pay6, k0_pay7, k0_pay8, k0_pay9]
    refine congrArg x (congrArg₂ ix2 (Fin.ext ?_) (Fin.ext ?_)) <;>
      simp [ValueKit.rect_emb_unit_val]

/-- On the last tile its second half is the gates' weights transposed. -/
theorem filled_last (x : Vec Ideal S1024x2048 .f32) (u : Vec Ideal S512x2048 .f32) (k : Fin 2048) (n : Fin 1024) :
    filled true x u (ix2 k n) = (if h : n.val < 512 then x (ix2 n k) else u (ix2 ⟨n.val - 512, by omega⟩ k) : EReal) := by
  refine View.canon_apply_of_pieces (Val := Elt Ideal) (e := .bf16)
    (fun y : S2048x1024.Idx => if h : (y 1).val < 512 then x (ix2 (y 1) (y 0)) else u (ix2 ⟨(y 1).val - 512, by have : (y 1).val < 1024 := (y 1).isLt; omega⟩ (y 0)))
    (pieces true x u) (fun q hq z => ?_) _ (pieces_cover true x u _)
  simp only [pieces, cond_true, List.mem_cons, List.not_mem_nil, or_false] at hq
  rcases hq with rfl | hq
  · obtain ⟨k, n, rfl⟩ : ∃ (k : Fin 2048) (n : Fin 512), z = ix2 k n := ⟨z 0, z 1, eq_ix2 z⟩
    rw [dif_neg (by simp [ValueKit.rect_emb_unit_val])]
    pointwise [k0_pay3]
    refine congrArg u (congrArg₂ ix2 (Fin.ext ?_) (Fin.ext ?_)) <;>
      simp [ValueKit.rect_emb_unit_val]
  · rcases hq with rfl | rfl <;>
    · obtain ⟨k, n, rfl⟩ : ∃ (k : Fin 2048) (n : Fin 256), z = ix2 k n := ⟨z 0, z 1, eq_ix2 z⟩
      rw [dif_pos (by simp [ValueKit.rect_emb_unit_val]; omega)]
      pointwise [k0_pay1, k0_pay2]
      refine congrArg x (congrArg₂ ix2 (Fin.ext ?_) (Fin.ext ?_)) <;>
        simp [ValueKit.rect_emb_unit_val]

/-- A block of the rows' product at an index. -/
theorem rows_apply (a : Vec Ideal S1024x2048 .bf16) (b : Vec Ideal S2048x1024 .bf16) (p n : Fin 1024) :
    k0_pay5 a b (ix2 p n) = (dotRow (fun k => a (ix2 p k)) (fun k n => b (ix2 k n)) n : EReal) := by
  pointwise [k0_pay5, dotRow]

/-- A block of the samples' product at an index. -/
theorem samples_apply (a : Vec Ideal S8x2048 .bf16) (b : Vec Ideal S2048x1024 .bf16) (p : Fin 8) (n : Fin 1024) :
    k0_pay4 a b (ix2 p n) = (dotRow (fun k => a (ix2 p k)) (fun k n => b (ix2 k n)) n : EReal) := by
  pointwise [k0_pay4, dotRow]

variable (m : (ℓ : Loc nD τ sig) → Buf (Elt Ideal) ℓ) (c : Dev nD)

/-- The block indices at every step; for the weights, the offset of the block. -/
theorem idx : ∀ t : Fin cfg0.N,
    win0_0.index t = ![t.val % 8, 0] ∧ win0_1.index t = ![off (t.val / 8), 0] ∧ win0_2.index t = ![0, 0] ∧ win0_3.index t = ![0, 0]
    ∧ win0_4.index t = ![t.val % 8, t.val / 8] ∧ win0_5.index t = ![0, t.val / 8] :=
  (by decide +kernel : ∀ t : Fin grid0.N,
    win0_0.index t = ![t.val % 8, 0] ∧ win0_1.index t = ![off (t.val / 8), 0] ∧ win0_2.index t = ![0, 0] ∧ win0_3.index t = ![0, 0]
    ∧ win0_4.index t = ![t.val % 8, t.val / 8] ∧ win0_5.index t = ![0, t.val / 8])

/-- There are 80 steps. -/
theorem lt80 (t : Fin cfg0.N) : t.val < 80 := lt_of_lt_of_eq t.isLt N_0

/-- A block of the weights lies inside them. -/
theorem off_lt (j : ℕ) (h : j < 10) (n : Fin 1024) : off j + n.val < 23088 := by
  unfold off; split <;> [omega; (split <;> omega)]

/-- The weights as the call takes them: transposed. -/
theorem w_entry (k : Fin 2048) (n : Fin 23088) : V m c main_v1 (ix2 n k) = m ((c : Thread nD τ).loc main_arg1) (ix3 0 k n) := by
  unfold V
  after_reads_at

/-- The gates' weights as the call takes them, as the host pads them. -/
theorem padded (k : Fin 2048) (n : Fin 512) : V m c main_v5 (ix2 n k)
    = if h : n.val / 128 < 4 ∧ n.val % 128 < 12 then
        m ((c : Thread nD τ).loc main_arg1) (ix3 0 k ⟨13312 + (n.val / 128 * 12 + n.val % 128), by omega⟩)
      else (FloatOps.sitofp (F := Ideal) FTy.f32 (0#32 : BitVec 32) : EReal) := by
  unfold V
  after_reads_at

/-- The blocks at a step, as entries of the arguments. -/
theorem h_block (t : Fin cfg0.N) (k : Fin 2048) (p : Fin 1024) : iblk m c 0 t (ix2 p k)
    = m ((c : Thread nD τ).loc main_arg0) (ix2 ⟨t.val % 8 * 1024 + p.val, by omega⟩ k) := by
  blk_ext [iblk, V, idx t]
/-- The weights at a step: a run from the tile's offset. -/
theorem w_block (t : Fin cfg0.N) (k : Fin 2048) (n : Fin 1024) (h : off (t.val / 8) + n.val < 23088) : iblk m c 1 t (ix2 n k)
    = m ((c : Thread nD τ).loc main_arg1) (ix3 0 k ⟨off (t.val / 8) + n.val, h⟩) := by
  refine Eq.trans ?_ (w_entry m c k _)
  have e := (idx t).2.1
  generalize off (t.val / 8) = o at e h ⊢
  blk_ext [iblk]
  · refine (win0_1.rect_emb_val_off t (ix2 n k) 0).trans ?_
    show win0_1.index t 0 + n.val = o + n.val
    rw [e]
    rfl
  · refine (win0_1.rect_emb_val_off t (ix2 n k) 1).trans ?_
    show win0_1.index t 1 + k.val = k.val
    rw [e]
    exact Nat.zero_add _
/-- The gates' weights at a step are all of them. -/
theorem g_block (t : Fin cfg0.N) (k : Fin 2048) (n : Fin 512) : iblk m c 2 t (ix2 n k)
    = gate (fun n => m ((c : Thread nD τ).loc main_arg1) (ix3 0 k n)) n := by
  refine Eq.trans (b := V m c main_v5 (ix2 n k)) (by blk_ext [iblk, idx t])
    ((padded m c k n).trans (gate_fill n.val n.isLt fun h => m ((c : Thread nD τ).loc main_arg1) (ix3 0 k ⟨13312 + (n.val / 128 * 12 + n.val % 128), by omega⟩)))
/-- The samples at a step are all of them. -/
theorem s_block (t : Fin cfg0.N) (k : Fin 2048) (p : Fin 8) : iblk m c 3 t (ix2 p k) = m ((c : Thread nD τ).loc main_arg2) (ix2 p k) := by
  blk_ext [iblk, V, idx t]

/-- The scratch filled at a step: the columns of that step's tile. -/
theorem filled_apply (t : Fin cfg0.N) (k : Fin 2048) (n : Fin 1024) (hq : t.val / 8 * 1024 + n.val < 10240) : scr m c t (ix2 k n)
    = pick (fun n => m ((c : Thread nD τ).loc main_arg1) (ix3 0 k n)) ⟨t.val / 8 * 1024 + n.val, hq⟩ := by
  have ht := lt80 t
  have ho := off_lt (t.val / 8) (by omega) n
  unfold scr
  by_cases h : 72 ≤ t.val
  · rw [decide_eq_true h, filled_last]
    by_cases hn : n.val < 512
    · rw [dif_pos hn, pick_run _ _ _ ht (.inr hn) hq ho, w_block m c t k n ho]
    · rw [dif_neg hn, pick_gate _ _ _ h hn hq, g_block]
  · rw [decide_eq_false h, filled_first, pick_run _ _ _ ht (.inl (by omega)) hq ho, w_block m c t k n ho]

/-- What a step finds in the scratch: the columns of its tile. -/
theorem scr_apply (t : Fin cfg0.N) (k : Fin 2048) (n : Fin 1024) : scr m c (home t.val) (ix2 k n)
    = pick (fun n => m ((c : Thread nD τ).loc main_arg1) (ix3 0 k n)) ⟨t.val / 8 * 1024 + n.val, by have := lt80 t; omega⟩ := by
  have ht := lt80 t
  have e : (home t.val).val / 8 = t.val / 8 := by
    unfold home
    dsimp only
    omega
  refine (filled_apply m c (home t.val) k n (by rw [e]; omega)).trans (congrArg (pick _) (Fin.ext ?_))
  dsimp only
  rw [e]

/-- The rows' result: the columns of their projection in that order. -/
theorem rows_final : (dats m 0 c).arrAt 4 cfg0.N
    = lastCols (m ((c : Thread nD τ).loc main_arg0)) (m ((c : Thread nD τ).loc main_arg1)) := by
  refine (dats m 0 c).arrAt_eq_of_covers 4 _ (by decide +kernel) fun t hf y => ?_
  obtain ⟨p, n, rfl⟩ : ∃ (p : Fin 1024) (n : Fin 1024), y = ix2 p n := ⟨y 0, y 1, eq_ix2 y⟩
  have := lt80 t
  have h0 : (((cfg0.win 4).blk t).view.emb (ix2 p n)) 0 = (⟨t.val % 8 * 1024 + p.val, by omega⟩ : Fin 8192) :=
    Fin.ext (by blk_simp [idx t])
  have h1 : (((cfg0.win 4).blk t).view.emb (ix2 p n)) 1 = (⟨t.val / 8 * 1024 + n.val, by omega⟩ : Fin 10240) :=
    Fin.ext (by blk_simp [idx t])
  unfold lastCols
  simp only [h0, h1]
  refine Eq.trans (b := k0_pay5 (iblk m c 0 t) (scr m c (home t.val)) (ix2 p n)) (by blk_simp; rw [after_4]) ?_
  rw [rows_apply]
  simp only [h_block, scr_apply]
  exact dot_pick (fun k => m ((c : Thread nD τ).loc main_arg0) (ix2 ⟨t.val % 8 * 1024 + p.val, by omega⟩ k))
    (fun k n => m ((c : Thread nD τ).loc main_arg1) (ix3 0 k n)) ⟨t.val / 8 * 1024 + n.val, by omega⟩

/-- The samples' result: the columns of their projection in that order. -/
theorem samples_final : (dats m 0 c).arrAt 5 cfg0.N
    = lastCols (m ((c : Thread nD τ).loc main_arg2)) (m ((c : Thread nD τ).loc main_arg1)) := by
  refine (dats m 0 c).arrAt_eq_of_covers 5 _ (by decide +kernel) fun t hf y => ?_
  obtain ⟨p, n, rfl⟩ : ∃ (p : Fin 8) (n : Fin 1024), y = ix2 p n := ⟨y 0, y 1, eq_ix2 y⟩
  have := lt80 t
  have h0 : (((cfg0.win 5).blk t).view.emb (ix2 p n)) 0 = p := Fin.ext (by blk_simp [idx t])
  have h1 : (((cfg0.win 5).blk t).view.emb (ix2 p n)) 1 = (⟨t.val / 8 * 1024 + n.val, by omega⟩ : Fin 10240) :=
    Fin.ext (by blk_simp [idx t])
  unfold lastCols
  simp only [h0, h1]
  refine Eq.trans (b := k0_pay4 (iblk m c 3 (home t.val)) (scr m c (home t.val)) (ix2 p n)) (by blk_simp; rw [after_5]) ?_
  rw [samples_apply]
  simp only [s_block, scr_apply]
  exact dot_pick (fun k => m ((c : Thread nD τ).loc main_arg2) (ix2 p k))
    (fun k n => m ((c : Thread nD τ).loc main_arg1) (ix3 0 k n)) ⟨t.val / 8 * 1024 + n.val, by omega⟩

/-- The kernel's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v6_0) = lastCols (m ((c : Thread nD τ).loc main_arg0)) (m ((c : Thread nD τ).loc main_arg1))
      ∧ r.2.mem ((c : Thread nD τ).loc main_v6_1) = lastCols (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1.1 c).1 4).trans (rows_final m c), ((h.1.1 c).1 5).trans (samples_final m c), h.2.1 c⟩)
    (θ_run_and (ends m ρ) (quiescent m ρ))

end Cert.TailIdeal.Steps

namespace Cert.TailReferenceIdeal.Steps

open Cert.TailReferenceIdeal Cert.TailReferenceIdeal.Gen
open Cert.Layer Cert.TailIdeal.Steps
open Cert.ProjIdeal.Steps (entry)

variable (m : (ℓ : Loc nD τ sig) → Buf (Elt Ideal) ℓ)

/-- Runs of the rows' columns side by side, the gates' last, are the columns in that order. -/
theorem rows_join (x1 : Vec Ideal S8192x2048 .f32) (x2 : Vec Ideal S8192x6144 .f32) (x3 : Vec Ideal S8192x1536 .f32)
    (x4 : Vec Ideal S8192x512 .f32) (p : Fin 8192) (q : Fin 10240) (f : Fin 23088 → EReal)
    (h1 : ∀ q : Fin 2048, x1 (ix2 p q) = f ⟨13360 + q.val, by omega⟩) (h2 : ∀ q : Fin 6144, x2 (ix2 p q) = f ⟨16944 + q.val, by omega⟩)
    (h3 : ∀ q : Fin 1536, x3 (ix2 p q) = f ⟨15408 + q.val, by omega⟩) (h4 : ∀ q : Fin 512, x4 (ix2 p q) = gate f q) :
    concatenate S8192x10240 1 [⟨S8192x2048, x1⟩, ⟨S8192x6144, x2⟩, ⟨S8192x1536, x3⟩, ⟨S8192x512, x4⟩]
      concatenates_S8192x2048_S8192x6144_S8192x1536_S8192x512_S8192x10240_d1 (ix2 p q)
    = pick f q := by
  rw [← pick_join]
  pointwise [h1, h2, h3, h4]

/-- The gates' columns of the rows, padded. -/
theorem rows_gates (z : Vec Ideal S8192x23088 .f32) (p : Fin 8192) (q : Fin 512) :
    shapeCast S8192x512 (pad S8192x4x128 ![0, 0, 0] ![0, 0, 116] ![0, 0, 0]
        (shapeCast S8192x4x12 (extractStridedSlice S8192x48 ![0, 13312] z slices_S8192x23088_S8192x48_0_13312) shapeCasts_S8192x48_S8192x4x12)
        (sitofp (F := Ideal) .f32 (constantI S_ 32 0#32)) pads_S8192x4x12_S8192x4x128_000_000_01160 h_S_) shapeCasts_S8192x4x128_S8192x512 (ix2 p q)
      = gate (fun n => z (ix2 p n)) q := by
  refine Eq.trans ?_ (gate_fill q.val q.isLt fun h => z (ix2 p ⟨13312 + (q.val / 128 * 12 + q.val % 128), by omega⟩))
  pointwise []

/-- The other runs of columns of the rows. -/
theorem rows_runs (z : Vec Ideal S8192x23088 .f32) (p : Fin 8192) :
    (∀ q : Fin 2048, extractStridedSlice S8192x2048 ![0, 13360] z slices_S8192x23088_S8192x2048_0_13360 (ix2 p q) = z (ix2 p ⟨13360 + q.val, by omega⟩))
    ∧ (∀ q : Fin 6144, extractStridedSlice S8192x6144 ![0, 16944] z slices_S8192x23088_S8192x6144_0_16944 (ix2 p q) = z (ix2 p ⟨16944 + q.val, by omega⟩))
    ∧ (∀ q : Fin 1536, extractStridedSlice S8192x1536 ![0, 15408] z slices_S8192x23088_S8192x1536_0_15408 (ix2 p q) = z (ix2 p ⟨15408 + q.val, by omega⟩)) := by
  refine ⟨fun q => ?_, fun q => ?_, fun q => ?_⟩ <;> pointwise []

/-- So the reference's joined columns are the projection's columns in the kernel's order. -/
theorem rows_pick (z : Vec Ideal S8192x23088 .f32) (p : Fin 8192) (q : Fin 10240) :
    concatenate S8192x10240 1 [⟨S8192x2048, extractStridedSlice S8192x2048 ![0, 13360] z slices_S8192x23088_S8192x2048_0_13360⟩,
        ⟨S8192x6144, extractStridedSlice S8192x6144 ![0, 16944] z slices_S8192x23088_S8192x6144_0_16944⟩,
        ⟨S8192x1536, extractStridedSlice S8192x1536 ![0, 15408] z slices_S8192x23088_S8192x1536_0_15408⟩,
        ⟨S8192x512, shapeCast S8192x512 (pad S8192x4x128 ![0, 0, 0] ![0, 0, 116] ![0, 0, 0]
          (shapeCast S8192x4x12 (extractStridedSlice S8192x48 ![0, 13312] z slices_S8192x23088_S8192x48_0_13312) shapeCasts_S8192x48_S8192x4x12)
          (sitofp (F := Ideal) .f32 (constantI S_ 32 0#32)) pads_S8192x4x12_S8192x4x128_000_000_01160 h_S_) shapeCasts_S8192x4x128_S8192x512⟩]
      concatenates_S8192x2048_S8192x6144_S8192x1536_S8192x512_S8192x10240_d1 (ix2 p q)
    = pick (fun n => z (ix2 p n)) q := by
  obtain ⟨h1, h2, h3⟩ := rows_runs z p
  exact rows_join _ _ _ _ p q _ h1 h2 h3 (rows_gates z p)

/-- The projection of the rows at an index. -/
theorem rows_apply (a : Vec Ideal S8192x2048 .bf16) (w : Vec Ideal S1x2048x23088 .f32) (p : Fin 8192) (n : Fin 23088) :
    Host.dotGeneral (F := Ideal) (φ₁ := .f32) (φ₂ := .f32) dot_S8192x2048_S2048x23088_S8192x23088_1_0_0_1_n_n none
        (extf .f32 a bitsLt_bf16_f32) (shapeCast _ w shapeCasts_S1x2048x23088_S2048x23088) (ix2 p n)
      = entry a w p n := by
  pointwise [entry, dotRow]

/-- Runs of the samples' columns side by side, the gates' last, are the columns in that order. -/
theorem samples_join (x1 : Vec Ideal S8x2048 .f32) (x2 : Vec Ideal S8x6144 .f32) (x3 : Vec Ideal S8x1536 .f32)
    (x4 : Vec Ideal S8x512 .f32) (p : Fin 8) (q : Fin 10240) (f : Fin 23088 → EReal)
    (h1 : ∀ q : Fin 2048, x1 (ix2 p q) = f ⟨13360 + q.val, by omega⟩) (h2 : ∀ q : Fin 6144, x2 (ix2 p q) = f ⟨16944 + q.val, by omega⟩)
    (h3 : ∀ q : Fin 1536, x3 (ix2 p q) = f ⟨15408 + q.val, by omega⟩) (h4 : ∀ q : Fin 512, x4 (ix2 p q) = gate f q) :
    concatenate S8x10240 1 [⟨S8x2048, x1⟩, ⟨S8x6144, x2⟩, ⟨S8x1536, x3⟩, ⟨S8x512, x4⟩]
      concatenates_S8x2048_S8x6144_S8x1536_S8x512_S8x10240_d1 (ix2 p q)
    = pick f q := by
  rw [← pick_join]
  pointwise [h1, h2, h3, h4]

/-- The gates' columns of the samples, padded. -/
theorem samples_gates (z : Vec Ideal S8x23088 .f32) (p : Fin 8) (q : Fin 512) :
    shapeCast S8x512 (pad S8x4x128 ![0, 0, 0] ![0, 0, 116] ![0, 0, 0]
        (shapeCast S8x4x12 (extractStridedSlice S8x48 ![0, 13312] z slices_S8x23088_S8x48_0_13312) shapeCasts_S8x48_S8x4x12)
        (sitofp (F := Ideal) .f32 (constantI S_ 32 0#32)) pads_S8x4x12_S8x4x128_000_000_01160 h_S_) shapeCasts_S8x4x128_S8x512 (ix2 p q)
      = gate (fun n => z (ix2 p n)) q := by
  refine Eq.trans ?_ (gate_fill q.val q.isLt fun h => z (ix2 p ⟨13312 + (q.val / 128 * 12 + q.val % 128), by omega⟩))
  pointwise []

/-- The other runs of columns of the samples. -/
theorem samples_runs (z : Vec Ideal S8x23088 .f32) (p : Fin 8) :
    (∀ q : Fin 2048, extractStridedSlice S8x2048 ![0, 13360] z slices_S8x23088_S8x2048_0_13360 (ix2 p q) = z (ix2 p ⟨13360 + q.val, by omega⟩))
    ∧ (∀ q : Fin 6144, extractStridedSlice S8x6144 ![0, 16944] z slices_S8x23088_S8x6144_0_16944 (ix2 p q) = z (ix2 p ⟨16944 + q.val, by omega⟩))
    ∧ (∀ q : Fin 1536, extractStridedSlice S8x1536 ![0, 15408] z slices_S8x23088_S8x1536_0_15408 (ix2 p q) = z (ix2 p ⟨15408 + q.val, by omega⟩)) := by
  refine ⟨fun q => ?_, fun q => ?_, fun q => ?_⟩ <;> pointwise []

/-- So the reference's joined columns are the projection's columns in the kernel's order. -/
theorem samples_pick (z : Vec Ideal S8x23088 .f32) (p : Fin 8) (q : Fin 10240) :
    concatenate S8x10240 1 [⟨S8x2048, extractStridedSlice S8x2048 ![0, 13360] z slices_S8x23088_S8x2048_0_13360⟩,
        ⟨S8x6144, extractStridedSlice S8x6144 ![0, 16944] z slices_S8x23088_S8x6144_0_16944⟩,
        ⟨S8x1536, extractStridedSlice S8x1536 ![0, 15408] z slices_S8x23088_S8x1536_0_15408⟩,
        ⟨S8x512, shapeCast S8x512 (pad S8x4x128 ![0, 0, 0] ![0, 0, 116] ![0, 0, 0]
          (shapeCast S8x4x12 (extractStridedSlice S8x48 ![0, 13312] z slices_S8x23088_S8x48_0_13312) shapeCasts_S8x48_S8x4x12)
          (sitofp (F := Ideal) .f32 (constantI S_ 32 0#32)) pads_S8x4x12_S8x4x128_000_000_01160 h_S_) shapeCasts_S8x4x128_S8x512⟩]
      concatenates_S8x2048_S8x6144_S8x1536_S8x512_S8x10240_d1 (ix2 p q)
    = pick (fun n => z (ix2 p n)) q := by
  obtain ⟨h1, h2, h3⟩ := samples_runs z p
  exact samples_join _ _ _ _ p q _ h1 h2 h3 (samples_gates z p)

/-- The projection of the samples at an index. -/
theorem samples_apply (a : Vec Ideal S8x2048 .bf16) (w : Vec Ideal S1x2048x23088 .f32) (p : Fin 8) (n : Fin 23088) :
    Host.dotGeneral (F := Ideal) (φ₁ := .f32) (φ₂ := .f32) dot_S8x2048_S2048x23088_S8x23088_1_0_0_1_n_n none
        (extf .f32 a bitsLt_bf16_f32) (shapeCast _ w shapeCasts_S1x2048x23088_S2048x23088) (ix2 p n)
      = entry a w p n := by
  pointwise [entry, dotRow]

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v18) = lastCols (m ((c : Thread nD τ).loc main_arg0)) (m ((c : Thread nD τ).loc main_arg1))
      ∧ r.2.mem ((c : Thread nD τ).loc main_v36) = lastCols (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, ?_, (h c).2.2⟩) (Value.run m ρ)
  · rw [(h c).1]
    funext y
    obtain ⟨p, n, rfl⟩ : ∃ (p : Fin 8192) (n : Fin 10240), y = ix2 p n := ⟨y 0, y 1, eq_ix2 y⟩
    exact (rows_pick _ p n).trans (congrArg (fun f => pick f n) (funext fun j => rows_apply _ _ p j))
  · rw [(h c).2.1]
    funext y
    obtain ⟨p, n, rfl⟩ : ∃ (p : Fin 8) (n : Fin 10240), y = ix2 p n := ⟨y 0, y 1, eq_ix2 y⟩
    exact (samples_pick _ p n).trans (congrArg (fun f => pick f n) (funext fun j => samples_apply _ _ p j))

end Cert.TailReferenceIdeal.Steps
-- ==== Proof.KvBody.lean ====
module

public import proofs.«01_k».proof.Proof.Gen.KvIdeal.Frame
public import proofs.«01_k».proof.Proof.Gen.KvIdeal.Skeleton
public import proofs.«01_k».proof.Proof.ProjBody

/-! The keys' and values' projection at any reading of the floats. Beside the rows' product, each column tile has a result of its
own, stored at the tile's steps only (the third's at two of them) and held otherwise. -/

@[expose] public section

set_option maxRecDepth 16384

noncomputable section

namespace Cert.KvIdeal.Body

open Cert.KvIdeal Cert.KvIdeal.Gen
open Cert.ProjIdeal.Body (zeros read_stored strips turned strips_cover)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- What a buffer stored under a condition holds afterwards. -/
def put {α : Type} (b : BitVec 1) (new old : α) : α := if b = 1#1 then new else old

set_option maxHeartbeats 8000000 in
/-- The body where a column tile begins: the scratch is filled, and both products are taken with it. -/
theorem run_begin (c : Dev nD) (E : Set ℕ) (i : grid0.Coords) (arg2 : Memref sig .tc .vmem S512x2048 .bf16) (harg2 : arg2.IsWhole) (arg3 : Memref sig .tc .vmem S1024x2048 .f32) (harg3 : arg3.IsWhole) (arg4 : Memref sig .tc .vmem S8x2048 .bf16) (harg4 : arg4.IsWhole) (arg5 : Memref sig .tc .vmem S512x1024 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S8x1024 .f32) (harg9 : arg9.IsWhole) (arg10 : Memref sig .tc .vmem S2048x1024 .bf16) (harg10 : arg10.IsWhole) (hc : k0_cond1 i = 1#1)
    (x0 : Vec F S512x2048 .bf16) (x1 : Vec F S1024x2048 .f32) (x2 : Vec F S8x2048 .bf16) (y6 y7 y8 : Vec F S4096x128 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y6 ∗ owns (c : Thread nD τ) arg7 fullShare y7 ∗ owns (c : Thread nD τ) arg8 fullShare y8 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 (turned x1)) ∗ owns (c : Thread nD τ) arg6 fullShare (put (k0_cond2 i) (k0_pay2 x0 (turned x1)) y6) ∗ owns (c : Thread nD τ) arg7 fullShare (put (k0_cond3 i) (k0_pay3 x0 (turned x1)) y7) ∗ owns (c : Thread nD τ) arg8 fullShare (put (k0_cond4 i) (k0_pay4 x0 (turned x1)) y8) ∗ owns (c : Thread nD τ) arg9 fullShare (k0_pay9 x2 (turned x1)) ∗ owns (c : Thread nD τ) arg10 fullShare (turned x1)) -∗ K ⟨⟩))
      ⊢ wp frame (wpE (defs₀ (F := F)) Variants.none c none) E (cc0_proj_kv i arg2 harg2 arg3 harg3 arg4 harg4 arg5 harg5 arg6 harg6 arg7 harg7 arg8 harg8 arg9 harg9 arg10 harg10) K := by
  by_cases h2 : k0_cond2 i = 1#1 <;> by_cases h3 : k0_cond3 i = 1#1 <;> by_cases h4 : k0_cond4 i = 1#1
  all_goals
    simp only [put, h2, h3, h4, ↓reduceIte]
    simp only [cc0_proj_kv_eq_skeleton]; unfold cc0_proj_kv_skel
    simp only [k0_part1_eq_skeleton]
    unfold owns
    iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%d9, %f9, -, H9⟩, ⟨%d10, %f10, -, H10⟩, Hk⟩
    subst hf2 hf3 hf4 hf6 hf7 hf8
    have cover := strips_cover (arg3.view.read (Elt F) f3)
    sl_exec (disch := first | sl_exact hc | sl_exact h2 | sl_exact h3 | sl_exact h4)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      refine (read_stored _ _ zeros _ _).trans ?_
      exact congrArg₂ k0_pay1 (View.ld_unit_zero zeros _ _) ((View.readCov_eq_canon_ld _ _ _ cover).trans (View.ld_unit_zero zeros _ _))
    isplitl [H6]
    · first
      | (iexists f6; isplitr; · ipureintro; rfl
         iexact H6)
      | (iexists _; isplitr
         swap; · iexact H6
         ipureintro
         refine (read_stored _ _ zeros _ _).trans ?_
         exact congrArg₂ k0_pay2 (View.ld_unit_zero zeros _ _) ((View.readCov_eq_canon_ld _ _ _ cover).trans (View.ld_unit_zero zeros _ _)))
    isplitl [H7]
    · first
      | (iexists f7; isplitr; · ipureintro; rfl
         iexact H7)
      | (iexists _; isplitr
         swap; · iexact H7
         ipureintro
         refine (read_stored _ _ zeros _ _).trans ?_
         exact congrArg₂ k0_pay3 (View.ld_unit_zero zeros _ _) ((View.readCov_eq_canon_ld _ _ _ cover).trans (View.ld_unit_zero zeros _ _)))
    isplitl [H8]
    · first
      | (iexists f8; isplitr; · ipureintro; rfl
         iexact H8)
      | (iexists _; isplitr
         swap; · iexact H8
         ipureintro
         refine (read_stored _ _ zeros _ _).trans ?_
         exact congrArg₂ k0_pay4 (View.ld_unit_zero zeros _ _) ((View.readCov_eq_canon_ld _ _ _ cover).trans (View.ld_unit_zero zeros _ _)))
    isplitl [H9]
    · iexists _; isplitr
      swap; · iexact H9
      ipureintro
      refine (read_stored _ _ zeros _ _).trans ?_
      exact congrArg₂ k0_pay9 (View.ld_unit_zero zeros _ _) ((View.readCov_eq_canon_ld _ _ _ cover).trans (View.ld_unit_zero zeros _ _))
    iexists _; isplitr
    swap; · iexact H10
    ipureintro
    exact View.read_writes_eq_canon _ _ _ cover

set_option maxHeartbeats 8000000 in
/-- The body at a tile's other steps: the scratch is read as it is. -/
theorem run_within (c : Dev nD) (E : Set ℕ) (i : grid0.Coords) (arg2 : Memref sig .tc .vmem S512x2048 .bf16) (harg2 : arg2.IsWhole) (arg3 : Memref sig .tc .vmem S1024x2048 .f32) (harg3 : arg3.IsWhole) (arg4 : Memref sig .tc .vmem S8x2048 .bf16) (harg4 : arg4.IsWhole) (arg5 : Memref sig .tc .vmem S512x1024 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S8x1024 .f32) (harg9 : arg9.IsWhole) (arg10 : Memref sig .tc .vmem S2048x1024 .bf16) (harg10 : arg10.IsWhole) (hc : ¬k0_cond1 i = 1#1)
    (x0 : Vec F S512x2048 .bf16) (y6 y7 y8 : Vec F S4096x128 .f32) (xs : Vec F S2048x1024 .bf16) (K : PUnit → sProp (MT nD τ sig Unit (Elt F) ℕ (UR sig nD τ) ℕ)) :
    iprop(owns (c : Thread nD τ) arg2 fullShare x0 ∗ (∃ d, owns (c : Thread nD τ) arg5 fullShare d) ∗ owns (c : Thread nD τ) arg6 fullShare y6 ∗ owns (c : Thread nD τ) arg7 fullShare y7 ∗ owns (c : Thread nD τ) arg8 fullShare y8 ∗ owns (c : Thread nD τ) arg10 fullShare xs
        ∗ (iprop(owns (c : Thread nD τ) arg2 fullShare x0 ∗ owns (c : Thread nD τ) arg5 fullShare (k0_pay1 x0 xs) ∗ owns (c : Thread nD τ) arg6 fullShare (put (k0_cond2 i) (k0_pay2 x0 xs) y6) ∗ owns (c : Thread nD τ) arg7 fullShare (put (k0_cond3 i) (k0_pay3 x0 xs) y7) ∗ owns (c : Thread nD τ) arg8 fullShare (put (k0_cond4 i) (k0_pay4 x0 xs) y8) ∗ owns (c : Thread nD τ) arg10 fullShare xs) -∗ K ⟨⟩))
      ⊢ wp frame (wpE (defs₀ (F := F)) Variants.none c none) E (cc0_proj_kv i arg2 harg2 arg3 harg3 arg4 harg4 arg5 harg5 arg6 harg6 arg7 harg7 arg8 harg8 arg9 harg9 arg10 harg10) K := by
  by_cases h2 : k0_cond2 i = 1#1 <;> by_cases h3 : k0_cond3 i = 1#1 <;> by_cases h4 : k0_cond4 i = 1#1
  all_goals
    simp only [put, h2, h3, h4, ↓reduceIte]
    simp only [cc0_proj_kv_eq_skeleton]; unfold cc0_proj_kv_skel
    unfold owns
    iintro ⟨⟨%f2, %hf2, H2⟩, ⟨%d5, %f5, -, H5⟩, ⟨%f6, %hf6, H6⟩, ⟨%f7, %hf7, H7⟩, ⟨%f8, %hf8, H8⟩, ⟨%f10, %hf10, H10⟩, Hk⟩
    subst hf2 hf6 hf7 hf8 hf10
    sl_exec (disch := first | sl_exact hc | sl_exact h2 | sl_exact h3 | sl_exact h4)
    sl_step
    iapply Hk
    isplitl [H2]
    · iexists f2; isplitr; · ipureintro; rfl
      iexact H2
    isplitl [H5]
    · iexists _; isplitr
      swap; · iexact H5
      ipureintro
      refine (read_stored _ _ zeros _ _).trans ?_
      exact congrArg₂ k0_pay1 (View.ld_unit_zero zeros _ _) (View.ld_unit_zero zeros _ _)
    isplitl [H6]
    · first
      | (iexists f6; isplitr; · ipureintro; rfl
         iexact H6)
      | (iexists _; isplitr
         swap; · iexact H6
         ipureintro
         refine (read_stored _ _ zeros _ _).trans ?_
         exact congrArg₂ k0_pay2 (View.ld_unit_zero zeros _ _) (View.ld_unit_zero zeros _ _))
    isplitl [H7]
    · first
      | (iexists f7; isplitr; · ipureintro; rfl
         iexact H7)
      | (iexists _; isplitr
         swap; · iexact H7
         ipureintro
         refine (read_stored _ _ zeros _ _).trans ?_
         exact congrArg₂ k0_pay3 (View.ld_unit_zero zeros _ _) (View.ld_unit_zero zeros _ _))
    isplitl [H8]
    · first
      | (iexists f8; isplitr; · ipureintro; rfl
         iexact H8)
      | (iexists _; isplitr
         swap; · iexact H8
         ipureintro
         refine (read_stored _ _ zeros _ _).trans ?_
         exact congrArg₂ k0_pay4 (View.ld_unit_zero zeros _ _) (View.ld_unit_zero zeros _ _))
    iexists f10; isplitr; · ipureintro; rfl
    iexact H10

/-- The first point of the column tile of point `n`. -/
def home (n : ℕ) : Fin cfg0.N := ⟨16 * (n / 16) % 48, lt_of_lt_of_eq (Nat.mod_lt _ (by decide)) N_0.symm⟩

/-- At its first point a column tile is at home. -/
theorem home_self (t : Fin cfg0.N) (h : t.val % 16 = 0) : home t.val = t := by
  have ht : t.val < 48 := lt_of_lt_of_eq t.isLt N_0
  apply Fin.ext; unfold home; dsimp only; omega

/-- The next point, unless it begins a tile, has the same home. -/
theorem home_pred (n : ℕ) (h : ¬n % 16 = 0) : home (n - 1) = home n := by
  apply Fin.ext; unfold home; dsimp only; rw [show (n - 1) / 16 = n / 16 by omega]

/-- The point whose product the first tile's own buffer holds, and the second's. -/
def src4 (n : ℕ) : Fin cfg0.N := ⟨min n 15, lt_of_lt_of_eq (by omega : _ < 48) N_0.symm⟩
def src5 (n : ℕ) : Fin cfg0.N := ⟨max 16 (min n 31), lt_of_lt_of_eq (by omega : _ < 48) N_0.symm⟩

/-- When each of the body's conditions holds. -/
theorem conds : ∀ t : Fin cfg0.N, (k0_cond1 (grid0.coords t) = 1#1 ↔ t.val % 16 = 0) ∧ (k0_cond2 (grid0.coords t) = 1#1 ↔ t.val < 16)
    ∧ (k0_cond3 (grid0.coords t) = 1#1 ↔ 16 ≤ t.val ∧ t.val < 32) :=
  (by decide +kernel : ∀ t : Fin grid0.N, (k0_cond1 (grid0.coords t) = 1#1 ↔ t.val % 16 = 0) ∧ (k0_cond2 (grid0.coords t) = 1#1 ↔ t.val < 16)
    ∧ (k0_cond3 (grid0.coords t) = 1#1 ↔ 16 ≤ t.val ∧ t.val < 32))

/-- Whether an output window's buffer still awaits its first store at a point. -/
def awaits (w : Fin 8) (n : ℕ) : Bool := match w with
  | ⟨4, _⟩ => decide (n % 48 < 16)
  | ⟨5, _⟩ => decide (n % 48 < 32)
  | ⟨6, _⟩ => true
  | _ => decide (n % 16 = 0)

/-- The four outputs' buffers that are not stored at every point await a store exactly so. -/
theorem fresh_eq (w : Fin cfg0.W) (h : 4 ≤ w.val) (t : Fin cfg0.N) : cfg0.fresh w t.val = awaits w t.val := by
  refine cfg0.fresh_tab w (awaits w) ?_ ?_ t.val t.isLt.le
  · revert w; decide +kernel
  · revert w; decide +kernel

/-- A buffer written back where it is not stored does not await a store. -/
theorem flushed_held (w : Fin cfg0.W) (h : 4 ≤ w.val) : ∀ t : Fin cfg0.N,
    cfg0.idle w (cfg0.grid.coords t) = true → (cfg0.win w).flush t = true → awaits w t.val = false := by
  revert w; decide +kernel

/-- What the scratch holds from the first point of the column tile of point `n` on. -/
def scr (c : Dev nD) (n : ℕ) : Vec F S2048x1024 .bf16 := turned (X0_1 m c (home n))

/-- What is known between points: before the first point nothing of the scratch, afterwards the transposed weight block. -/
def Between (c : Dev nD) : ℕ → sProp (MT nD τ sig Unit (Elt F) ℕ (UR sig nD τ) ℕ)
  | 0 => Pipeline.ΦA spec0 c
  | n + 1 => iprop(owns (c : Thread nD τ) (Memref.whole cc0_scratch0) fullShare (scr m c n) ∗ (∃ r, prngReg c r))

/-- The proof data: inputs stay at their blocks, each output's block is the product stored there last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => k0_pay1 (iblk m c 0 t) (scr m c t.val)
    | ⟨4, _⟩ => k0_pay2 (iblk m c 0 (src4 t.val)) (scr m c (src4 t.val).val)
    | ⟨5, _⟩ => k0_pay3 (iblk m c 0 (src5 t.val)) (scr m c (src5 t.val).val)
    | ⟨6, _⟩ => k0_pay4 (iblk m c 0 t) (scr m c t.val)
    | ⟨7, _⟩ => k0_pay9 (iblk m c 2 (home t.val)) (scr m c t.val)
  Φ t := Between m c t.val
  q _ := fullShare
  owed _ := 0

/-- The arrays are as the region finds them. -/
theorem A_eq (c : Dev nD) (w : Fin cfg0.W) : (dats m 0 c).A w = V m c (Pipeline.arrRef spec0 w) := by dsimp only [dats]
/-- Each buffer after the body: the inputs' blocks, and the products. -/
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay1 (iblk m c 0 t) (scr m c t.val) := by dsimp only [dats]
theorem after_4 (c : Dev nD) (t : Fin cfg0.N) : (dats m 0 c).after 4 t = k0_pay2 (iblk m c 0 (src4 t.val)) (scr m c (src4 t.val).val) := by dsimp only [dats]
theorem after_5 (c : Dev nD) (t : Fin cfg0.N) : (dats m 0 c).after 5 t = k0_pay3 (iblk m c 0 (src5 t.val)) (scr m c (src5 t.val).val) := by dsimp only [dats]
theorem after_6 (c : Dev nD) (t : Fin cfg0.N) : (dats m 0 c).after 6 t = k0_pay4 (iblk m c 0 t) (scr m c t.val) := by dsimp only [dats]
theorem after_7 (c : Dev nD) (t : Fin cfg0.N) : (dats m 0 c).after 7 t = k0_pay9 (iblk m c 2 (home t.val)) (scr m c t.val) := by dsimp only [dats]

section
variable (c : Dev nD) (t : Fin cfg0.N)

/-- Where a buffer holds an earlier product, that product is the same as one point before. -/
theorem keep_4 (h : awaits 4 t.val = false) : (dats m 0 c).after 4 t = (dats m 0 c).after 4 ⟨t.val - 1, by omega⟩ := by
  have h : ¬t.val % 48 < 16 := of_decide_eq_false h
  rw [after_4, after_4, show src4 t.val = src4 (t.val - 1) by unfold src4; apply Fin.ext; dsimp only; omega]
theorem keep_5 (h : awaits 5 t.val = false) : (dats m 0 c).after 5 t = (dats m 0 c).after 5 ⟨t.val - 1, by omega⟩ := by
  have h : ¬t.val % 48 < 32 := of_decide_eq_false h
  rw [after_5, after_5, show src5 t.val = src5 (t.val - 1) by unfold src5; apply Fin.ext; dsimp only; omega]
theorem keep_7 (h : awaits 7 t.val = false) : (dats m 0 c).after 7 t = (dats m 0 c).after 7 ⟨t.val - 1, by omega⟩ := by
  have h : ¬t.val % 16 = 0 := of_decide_eq_false h
  rw [after_7, after_7]; unfold scr; dsimp only; rw [home_pred _ h]

/-- A buffer stored under a condition is left at what the loop asks for: at the product where the condition holds,
    and elsewhere at what was found, which is what it held if the block is written back there. -/
theorem leaves_put (w : Fin cfg0.W) (h4 : 4 ≤ w.val) (hw : (cfg0.win w).isOut = true)
    (hclip : ∀ (i : cfg0.grid.Coords) a, (cfg0.win w).clip i a = none)
    (keep : ∀ t : Fin cfg0.N, awaits w t.val = false → (dats m 0 c).after w t = (dats m 0 c).after w ⟨t.val - 1, by omega⟩)
    (b : BitVec 1) (hb : cfg0.idle w (cfg0.grid.coords t) = !(b == 1#1)) (x) (hx : b = 1#1 → x = (dats m 0 c).after w t) (d) :
    owns (c : Thread nD τ) ((cfg0.win w).stage (cfg0.slots t w)) fullShare (put b x ((dats m 0 c).before w t d)) ⊢ (dats m 0 c).leavesExact w t := by
  by_cases h : b = 1#1
  · unfold put
    rw [if_pos h, hx h]
    unfold Dat.leavesExact
    rw [hb, h]
    exact .rfl
  · have hi : cfg0.idle w (cfg0.grid.coords t) = true := by rw [hb, beq_false_of_ne h]; rfl
    unfold put
    rw [if_neg h]
    cases hf : (cfg0.win w).flush t with
    | false =>
      rw [Dat.leavesExact_idle _ w t hi hf]
      iintro H
      iexists d
      iexact H
    | true =>
      have ha := flushed_held w h4 t hi hf
      rw [Dat.before_out_traj _ w hw hclip (fun t _ _ hf => keep t ((fresh_eq w h4 t).symm.trans hf)) t.val t rfl d, fresh_eq w h4 t, ha, if_neg Bool.false_ne_true, ← keep t ha]
      unfold Dat.leavesExact
      rw [hf, hi]

/-- The four conditional outputs at any point. -/
theorem leaves_4 (d) : owns (c : Thread nD τ) (st0_4 t) fullShare (put (k0_cond2 (grid0.coords t)) (k0_pay2 (iblk m c 0 t) (scr m c t.val)) ((dats m 0 c).before 4 t d)) ⊢ (dats m 0 c).leavesExact 4 t :=
  leaves_put m c t 4 (by decide) rfl (fun _ _ => rfl) (keep_4 m c) _ rfl _ (fun h => by
    have := (conds t).2.1.mp h
    rw [after_4, show src4 t.val = t from Fin.ext (by unfold src4; dsimp only; omega)]) d
theorem leaves_5 (d) : owns (c : Thread nD τ) (st0_5 t) fullShare (put (k0_cond3 (grid0.coords t)) (k0_pay3 (iblk m c 0 t) (scr m c t.val)) ((dats m 0 c).before 5 t d)) ⊢ (dats m 0 c).leavesExact 5 t :=
  leaves_put m c t 5 (by decide) rfl (fun _ _ => rfl) (keep_5 m c) _ rfl _ (fun h => by
    have := (conds t).2.2.mp h
    rw [after_5, show src5 t.val = t from Fin.ext (by unfold src5; dsimp only; omega)]) d
theorem leaves_6 (d) : owns (c : Thread nD τ) (st0_6 t) fullShare (put (k0_cond4 (grid0.coords t)) (k0_pay4 (iblk m c 0 t) (scr m c t.val)) ((dats m 0 c).before 6 t d)) ⊢ (dats m 0 c).leavesExact 6 t :=
  leaves_put m c t 6 (by decide) rfl (fun _ _ => rfl) (fun _ h => nomatch h) _ rfl _ (fun _ => by rw [after_6]) d
theorem leaves_7 (d) : owns (c : Thread nD τ) (st0_7 t) fullShare (put (k0_cond1 (grid0.coords t)) (k0_pay9 (iblk m c 2 t) (scr m c t.val)) ((dats m 0 c).before 7 t d)) ⊢ (dats m 0 c).leavesExact 7 t :=
  leaves_put m c t 7 (by decide) rfl (fun _ _ => rfl) (keep_7 m c) _ rfl _ (fun h => by
    rw [after_7, home_self t ((conds t).1.mp h)]) d
end

/-- A buffer the loop never finds idle is left at what the proof data say. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The launch's scratch and generator, as the body takes them. -/
theorem launched (c : Dev nD) : (Pipeline.ΦA spec0 c : sProp (MT nD τ sig Unit (Elt F) ℕ (UR sig nD τ) ℕ))
    = iprop((∃ d, owns (c : Thread nD τ) (Memref.whole cc0_scratch0) fullShare d) ∗ (∃ r, prngReg c r)) := by
  unfold Pipeline.ΦA; rw [scopedRest0_eq]; simp only [owns_whole]

/-- Whatever is known between points, the scratch is there at some contents. -/
theorem between_weaken (c : Dev nD) (n : ℕ) : Between m c n ⊢ Pipeline.ΦA spec0 c := by
  cases n with
  | zero => exact .rfl
  | succ n =>
    rw [launched]; unfold Between
    iintro ⟨H, Hg⟩
    isplitl [H]
    · iexists _; iexact H
    iexact Hg

set_option maxHeartbeats 1600000 in
/-- The body at any point takes what is known before the point to what is known after it. -/
theorem step (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
    ⊢ wp frame (wpE (defs₀ (F := F)) Variants.none c none) Set.univ (bodyAt0 t) fun _ =>
      iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t) := by
  have b0 := before0_0_of m (dats m 0 c) (A_eq m c 0) (after_0 m c) t
  have b1 := before0_1_of m (dats m 0 c) (A_eq m c 1) (after_1 m c) t
  have b2 := before0_2_of m (dats m 0 c) (A_eq m c 2) (after_2 m c) t
  simp only [b0, b1, b2]
  rw [show (dats m 0 c).owesAt () t.succ = (dats m 0 c).owesAt () t.castSucc from rfl,
    show (dats m 0 c).Φ t.succ = iprop(owns (c : Thread nD τ) (Memref.whole cc0_scratch0) fullShare (scr m c t.val) ∗ (∃ r, prngReg c r)) from rfl,
    show (dats m 0 c).Φ t.castSucc = Between m c t.val from rfl,
    leaves_live m c 0 t rfl, leaves_live m c 1 t rfl, leaves_live m c 2 t rfl, leaves_live m c 3 t rfl,
    after_0, after_1, after_2, after_3]
  by_cases h : t.val % 16 = 0
  · refine (sep_mono_l ((between_weaken m c t.val).trans (launched c).le)).trans ?_
    show iprop(((∃ d, owns (c : Thread nD τ) (Memref.whole cc0_scratch0) fullShare d) ∗ (∃ r, prngReg c r)) ∗ _) ⊢ _
    have e : scr m c t.val = turned (X0_1 m c t) := by unfold scr; rw [home_self t h]
    have hc : put (k0_cond1 (grid0.coords t)) (k0_pay9 (iblk m c 2 t) (scr m c t.val)) = fun _ => k0_pay9 (iblk m c 2 t) (scr m c t.val) := by
      funext _; unfold put; rw [if_pos ((conds t).1.mpr h)]
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_begin c Set.univ (grid0.coords t) _ _ _ _ _ _ _ _ _ _ _ _ _ _ _ _ _ _ ((conds t).1.mpr h) (iblk m c 0 t) (X0_1 m c t) (iblk m c 2 t) ((dats m 0 c).before 4 t d4) ((dats m 0 c).before 5 t d5) ((dats m 0 c).before 6 t d6) _)
    rw [← e]
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexists _; iexact H7
    isplitl [Hs]; · iexact Hs
    iintro ⟨H0, H1, H2, H3, H4, H5, H6, H7, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iapply (leaves_4 m c t d4); iexact H4
    isplitl [H5]; · iapply (leaves_5 m c t d5); iexact H5
    isplitl [H6]; · iapply (leaves_6 m c t d6); iexact H6
    iapply (leaves_7 m c t d7)
    rw [hc]
    iexact H7
  · obtain ⟨n, hn⟩ : ∃ n, t.val = n + 1 := ⟨t.val - 1, by omega⟩
    have same : scr m c n = scr m c t.val := by
      unfold scr; rw [← home_pred t.val h, hn]; rfl
    rw [show Between m c t.val = iprop(owns (c : Thread nD τ) (Memref.whole cc0_scratch0) fullShare (scr m c t.val) ∗ (∃ r, prngReg c r)) by
      rw [← same, hn]; rfl]
    have hc : put (k0_cond1 (grid0.coords t)) (k0_pay9 (iblk m c 2 t) (scr m c t.val)) = id := by
      funext _; unfold put; rw [if_neg fun e => h ((conds t).1.mp e)]; rfl
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_within c Set.univ (grid0.coords t) _ _ _ _ _ _ _ _ _ _ _ _ _ _ _ _ _ _ (fun e => h ((conds t).1.mp e)) (iblk m c 0 t) ((dats m 0 c).before 4 t d4) ((dats m 0 c).before 5 t d5) ((dats m 0 c).before 6 t d6) (scr m c t.val) _)
    isplitl [H0]; · iexact H0
    isplitl [H3]; · iexists _; iexact H3
    isplitl [H4]; · iexact H4
    isplitl [H5]; · iexact H5
    isplitl [H6]; · iexact H6
    isplitl [Hs]; · iexact Hs
    iintro ⟨H0, H3, H4, H5, H6, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iapply (leaves_4 m c t d4); iexact H4
    isplitl [H5]; · iapply (leaves_5 m c t d5); iexact H5
    isplitl [H6]; · iapply (leaves_6 m c t d6); iexact H6
    iapply (leaves_7 m c t d7)
    rw [hc]
    iexact H7

/-- The loop's obligation on the body. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (step m c t) rfl .rfl fun _ => .rfl

set_option backward.isDefEq.respectTransparency.types false in
/-- Every run of the program ends, with the windows' arrays at what the proof data say, every other array as launched,
    and no semaphore held. -/
theorem ends : θ_run defs (onTc (τ := τ) (main (F := F))) (s₀ m ρ) fun r => Pipeline.FramePost cfgs (dats m) 0 (V m) r ∧ r.2.sem = fun _ => 0 :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun c => between_weaken m c cfg0.N)

/-- The program runs, its arguments end unchanged, and no semaphore is held. -/
theorem quiescent : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  θ_run_and (frame_of m ρ (dats m) (A_eq m) ((θ_run defs _ _).mono (fun _ h => h.1) (ends m ρ)))
    ((θ_run defs _ _).mono (fun _ h => h.2) (ends m ρ))

end Cert.KvIdeal.Body

end
-- ==== Proof.KvValue.lean ====
module

public import proofs.«01_k».proof.Proof.ProjValue
public import proofs.«01_k».proof.Proof.KvBody
public import proofs.«01_k».proof.Proof.Gen.KvReferenceIdeal.Run
public import Idealize.ShloMosaic.Lib.Pipeline.ValueKit
public import Idealize.ShloMosaic.Lib.StableHlo.ReadAt

/-! The keys' and values' projection over the extended reals: the kernel's blocks and the reference's arrays. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.KvIdeal.Steps

open Cert.KvIdeal Cert.KvIdeal.Gen Cert.KvIdeal.Body
open Cert.Layer
open Cert.ProjIdeal.Body (turned)
open Cert.ProjIdeal.Steps (entry turned_apply)

/-- The 3072 columns of the projection from column 10240 on. -/
def middleCols {r : ℕ} (a : (⟨2, ![r, 2048]⟩ : Shape).Idx → EReal) (w : S1x2048x23088.Idx → EReal) :
    (⟨2, ![r, 3072]⟩ : Shape).Idx → EReal :=
  fun y => entry a w (y 0) ⟨10240 + (y 1).val, (Nat.add_lt_add_left (show (y 1).val < 3072 from (y 1).isLt) 10240).trans (by omega)⟩

/-- A position's 1024 columns from `n₀` on, as eight rows of 128: one entry of row `r`, whose position is `p`. -/
def lineEntry (n₀ : ℕ) (hn : n₀ ≤ 12288) (a : S8192x2048.Idx → EReal) (w : S1x2048x23088.Idx → EReal) (p : Fin 8192) (r : ℕ) (e : Fin 128) : EReal :=
  entry a w p ⟨n₀ + (r % 8 * 128 + e.val), by omega⟩

/-- All positions' rows of 128 columns. -/
def lines (n₀ : ℕ) (hn : n₀ ≤ 12288) (a : S8192x2048.Idx → EReal) (w : S1x2048x23088.Idx → EReal) : S65536x128.Idx → EReal :=
  fun y => lineEntry n₀ hn a w ⟨(y 0).val / 8, Nat.div_lt_of_lt_mul (show (y 0).val < 8 * 8192 from (y 0).isLt)⟩ (y 0).val (y 1)

/-- The sequence position of a row of the last 512 positions' rows of 128 columns. -/
def lastPos (r : Fin 8192) : Fin 8192 := ⟨r.val / 4096 * 4096 + 3584 + r.val / 8 % 512, by omega⟩

/-- The last 512 positions' rows of 128 columns, in each sequence. -/
def lastLines (a : S8192x2048.Idx → EReal) (w : S1x2048x23088.Idx → EReal) : S8192x128.Idx → EReal :=
  fun y => lineEntry 12288 (le_refl _) a w (lastPos (y 0)) (y 0).val (y 1)

/-- Entries at equal places are equal. -/
theorem entry_congr {r : ℕ} (a : (⟨2, ![r, 2048]⟩ : Shape).Idx → EReal) (w : S1x2048x23088.Idx → EReal) {p p' : Fin r} {n n' : Fin 23088}
    (hp : p.val = p'.val) (hn : n.val = n'.val) : entry a w p n = entry a w p' n' := by rw [Fin.ext hp, Fin.ext hn]

/-- A block of the rows' product at an index. -/
theorem rows_apply (a : Vec Ideal S512x2048 .bf16) (b : Vec Ideal S2048x1024 .bf16) (p : Fin 512) (n : Fin 1024) :
    k0_pay1 a b (ix2 p n) = (dotRow (fun k => a (ix2 p k)) (fun k n => b (ix2 k n)) n : EReal) := by
  pointwise [k0_pay1, dotRow]

/-- The same block laid out in rows of 128 columns, at an index. -/
theorem lined_apply (a : Vec Ideal S512x2048 .bf16) (b : Vec Ideal S2048x1024 .bf16) (r : Fin 4096) (e : Fin 128) :
    k0_pay2 a b (ix2 r e)
      = (dotRow (fun k => a (ix2 ⟨r.val / 8, by omega⟩ k)) (fun k n => b (ix2 k n)) ⟨r.val % 8 * 128 + e.val, by omega⟩ : EReal) := by
  pointwise [k0_pay2]
  exact rows_apply _ _ _ _

/-- A block of the samples' product at an index. -/
theorem samples_apply (a : Vec Ideal S8x2048 .bf16) (b : Vec Ideal S2048x1024 .bf16) (p : Fin 8) (n : Fin 1024) :
    k0_pay9 a b (ix2 p n) = (dotRow (fun k => a (ix2 p k)) (fun k n => b (ix2 k n)) n : EReal) := by
  pointwise [k0_pay9, dotRow]

variable (m : (ℓ : Loc nD τ sig) → Buf (Elt Ideal) ℓ) (c : Dev nD)

/-- The block indices at every step. -/
theorem idx : ∀ t : Fin cfg0.N,
    win0_0.index t = ![t.val % 16, 0] ∧ win0_1.index t = ![10 + t.val / 16, 0] ∧ win0_2.index t = ![0, 0]
    ∧ win0_3.index t = ![t.val % 16, t.val / 16] ∧ win0_4.index t = ![(src4 t.val).val, 0]
    ∧ win0_5.index t = ![(src5 t.val).val - 16, 0] ∧ win0_6.index t = ![(t.val - 32) / 8, 0]
    ∧ win0_7.index t = ![0, t.val / 16] :=
  (by decide +kernel : ∀ t : Fin grid0.N,
    win0_0.index t = ![t.val % 16, 0] ∧ win0_1.index t = ![10 + t.val / 16, 0] ∧ win0_2.index t = ![0, 0]
    ∧ win0_3.index t = ![t.val % 16, t.val / 16] ∧ win0_4.index t = ![(src4 t.val).val, 0]
    ∧ win0_5.index t = ![(src5 t.val).val - 16, 0] ∧ win0_6.index t = ![(t.val - 32) / 8, 0]
    ∧ win0_7.index t = ![0, t.val / 16])

/-- There are 48 steps. -/
theorem lt48 (t : Fin cfg0.N) : t.val < 48 := lt_of_lt_of_eq t.isLt N_0

/-- The weights as the call takes them: transposed. -/
theorem w_entry (k : Fin 2048) (n : Fin 23088) : V m c main_v1 (ix2 n k) = m ((c : Thread nD τ).loc main_arg1) (ix3 0 k n) := by
  unfold V
  after_reads_at

section
variable (t : Fin cfg0.N) (k : Fin 2048)

/-- The blocks at a step, as entries of the arguments. -/
theorem h_block (p : Fin 512) : iblk m c 0 t (ix2 p k)
    = m ((c : Thread nD τ).loc main_arg0) (ix2 ⟨t.val % 16 * 512 + p.val, by omega⟩ k) := by
  blk_ext [iblk, V, idx t]
theorem w_block (n : Fin 1024) : X0_1 m c t (ix2 n k)
    = m ((c : Thread nD τ).loc main_arg1) (ix3 0 k ⟨(10 + t.val / 16) * 1024 + n.val, by have := lt48 t; omega⟩) := by
  have := lt48 t
  unfold X0_1 Pipeline.Window.fill
  rw [dif_pos (moved0_1 t _)]
  refine Eq.trans ?_ (w_entry m c k _)
  blk_ext [iblk, idx t]
theorem s_block (p : Fin 8) : iblk m c 2 t (ix2 p k) = m ((c : Thread nD τ).loc main_arg2) (ix2 p k) := by
  blk_ext [iblk, V, idx t]

/-- The scratch at a step: a run of 1024 columns of the weights. -/
theorem scr_apply (n : Fin 1024) : scr m c t.val (ix2 k n)
    = (m ((c : Thread nD τ).loc main_arg1) (ix3 0 k ⟨(10 + t.val / 16) * 1024 + n.val, by have := lt48 t; omega⟩) : EReal) := by
  have := lt48 t
  unfold scr
  rw [turned_apply, w_block]
  congr 2
  unfold home
  apply Fin.ext
  dsimp only
  omega
end

/-- A step's products, as entries of the projection. -/
theorem rows_prod (t : Fin cfg0.N) (p : Fin 512) (n : Fin 1024) :
    dotRow (fun k => (iblk m c 0 t (ix2 p k) : EReal)) (fun k n => (scr m c t.val (ix2 k n) : EReal)) n
      = entry (m ((c : Thread nD τ).loc main_arg0)) (m ((c : Thread nD τ).loc main_arg1)) ⟨t.val % 16 * 512 + p.val, by omega⟩
          ⟨(10 + t.val / 16) * 1024 + n.val, by have := lt48 t; omega⟩ := by
  simp only [h_block, scr_apply]
  rfl
theorem samples_prod (s t : Fin cfg0.N) (p : Fin 8) (n : Fin 1024) :
    dotRow (fun k => (iblk m c 2 s (ix2 p k) : EReal)) (fun k n => (scr m c t.val (ix2 k n) : EReal)) n
      = entry (m ((c : Thread nD τ).loc main_arg2)) (m ((c : Thread nD τ).loc main_arg1)) p
          ⟨(10 + t.val / 16) * 1024 + n.val, by have := lt48 t; omega⟩ := by
  simp only [s_block, scr_apply]
  rfl

/-- The rows' result: the middle columns of their projection. -/
theorem rows_final : (dats m 0 c).arrAt 3 cfg0.N
    = middleCols (m ((c : Thread nD τ).loc main_arg0)) (m ((c : Thread nD τ).loc main_arg1)) := by
  refine (dats m 0 c).arrAt_eq_of_covers 3 _ (by decide +kernel) fun t hf y => ?_
  obtain ⟨p, n, rfl⟩ : ∃ (p : Fin 512) (n : Fin 1024), y = ix2 p n := ⟨y 0, y 1, eq_ix2 y⟩
  have := lt48 t
  have h0 : (((cfg0.win 3).blk t).view.emb (ix2 p n)) 0 = (⟨t.val % 16 * 512 + p.val, by omega⟩ : Fin 8192) :=
    Fin.ext (by blk_simp [idx t])
  have h1 : (((cfg0.win 3).blk t).view.emb (ix2 p n)) 1 = (⟨t.val / 16 * 1024 + n.val, by omega⟩ : Fin 3072) :=
    Fin.ext (by blk_simp [idx t])
  unfold middleCols
  simp only [h0, h1]
  refine Eq.trans (b := k0_pay1 (iblk m c 0 t) (scr m c t.val) (ix2 p n)) (by blk_simp; rw [after_3]) ?_
  rw [rows_apply, rows_prod]
  exact entry_congr _ _ rfl (by dsimp only; omega)

/-- The samples' result: the middle columns of their projection. -/
theorem samples_final : (dats m 0 c).arrAt 7 cfg0.N
    = middleCols (m ((c : Thread nD τ).loc main_arg2)) (m ((c : Thread nD τ).loc main_arg1)) := by
  refine (dats m 0 c).arrAt_eq_of_covers 7 _ (by decide +kernel) fun t hf y => ?_
  obtain ⟨p, n, rfl⟩ : ∃ (p : Fin 8) (n : Fin 1024), y = ix2 p n := ⟨y 0, y 1, eq_ix2 y⟩
  have := lt48 t
  have h0 : (((cfg0.win 7).blk t).view.emb (ix2 p n)) 0 = p := Fin.ext (by blk_simp [idx t])
  have h1 : (((cfg0.win 7).blk t).view.emb (ix2 p n)) 1 = (⟨t.val / 16 * 1024 + n.val, by omega⟩ : Fin 3072) :=
    Fin.ext (by blk_simp [idx t])
  unfold middleCols
  simp only [h0, h1]
  refine Eq.trans (b := k0_pay9 (iblk m c 2 (home t.val)) (scr m c t.val) (ix2 p n)) (by blk_simp; rw [after_7]) ?_
  rw [samples_apply, samples_prod]
  exact entry_congr _ _ rfl (by dsimp only; omega)

/-- The first tile's own result: every position's 1024 columns from column 10240 on, in rows of 128. -/
theorem compressed_final : (dats m 0 c).arrAt 4 cfg0.N
    = lines 10240 (by omega) (m ((c : Thread nD τ).loc main_arg0)) (m ((c : Thread nD τ).loc main_arg1)) := by
  refine (dats m 0 c).arrAt_eq_of_covers 4 _ (by decide +kernel) fun t hf y => ?_
  obtain ⟨r, e, rfl⟩ : ∃ (r : Fin 4096) (e : Fin 128), y = ix2 r e := ⟨y 0, y 1, eq_ix2 y⟩
  have hs : (src4 t.val).val < 16 := by unfold src4; dsimp only; omega
  have h0 : (((cfg0.win 4).blk t).view.emb (ix2 r e)) 0 = (⟨(src4 t.val).val * 4096 + r.val, by omega⟩ : Fin 65536) :=
    Fin.ext (by blk_simp [idx t])
  have h1 : (((cfg0.win 4).blk t).view.emb (ix2 r e)) 1 = e := Fin.ext (by blk_simp [idx t])
  unfold lines lineEntry
  simp only [h0, h1]
  refine Eq.trans (b := k0_pay2 (iblk m c 0 (src4 t.val)) (scr m c (src4 t.val).val) (ix2 r e)) (by blk_simp; rw [after_4]) ?_
  rw [lined_apply, rows_prod]
  exact entry_congr _ _ (by dsimp only; omega) (by dsimp only; omega)

/-- The second tile's: the 1024 columns after them. -/
theorem selected_final : (dats m 0 c).arrAt 5 cfg0.N
    = lines 11264 (by omega) (m ((c : Thread nD τ).loc main_arg0)) (m ((c : Thread nD τ).loc main_arg1)) := by
  refine (dats m 0 c).arrAt_eq_of_covers 5 _ (by decide +kernel) fun t hf y => ?_
  obtain ⟨r, e, rfl⟩ : ∃ (r : Fin 4096) (e : Fin 128), y = ix2 r e := ⟨y 0, y 1, eq_ix2 y⟩
  have hs : 16 ≤ (src5 t.val).val ∧ (src5 t.val).val < 32 := by unfold src5; dsimp only; omega
  have h0 : (((cfg0.win 5).blk t).view.emb (ix2 r e)) 0 = (⟨((src5 t.val).val - 16) * 4096 + r.val, by omega⟩ : Fin 65536) :=
    Fin.ext (by blk_simp [idx t])
  have h1 : (((cfg0.win 5).blk t).view.emb (ix2 r e)) 1 = e := Fin.ext (by blk_simp [idx t])
  unfold lines lineEntry
  simp only [h0, h1]
  refine Eq.trans (b := k0_pay2 (iblk m c 0 (src5 t.val)) (scr m c (src5 t.val).val) (ix2 r e)) (by blk_simp; rw [after_5]; rfl) ?_
  rw [lined_apply, rows_prod]
  exact entry_congr _ _ (by dsimp only; omega) (by dsimp only; omega)

/-- The third tile's blocks are written back at two steps only. -/
theorem window_steps : ∀ t : Fin cfg0.N, (cfg0.win 6).flush t = true → t.val = 39 ∨ t.val = 47 := by decide +kernel

/-- The third tile's: the last 512 positions' 1024 columns after those. -/
theorem window_final : (dats m 0 c).arrAt 6 cfg0.N
    = lastLines (m ((c : Thread nD τ).loc main_arg0)) (m ((c : Thread nD τ).loc main_arg1)) := by
  refine (dats m 0 c).arrAt_eq_of_covers 6 _ (by decide +kernel) fun t hf y => ?_
  obtain ⟨r, e, rfl⟩ : ∃ (r : Fin 4096) (e : Fin 128), y = ix2 r e := ⟨y 0, y 1, eq_ix2 y⟩
  have hs := window_steps t hf
  have h0 : (((cfg0.win 6).blk t).view.emb (ix2 r e)) 0 = (⟨(t.val - 32) / 8 * 4096 + r.val, by omega⟩ : Fin 8192) :=
    Fin.ext (by blk_simp [idx t])
  have h1 : (((cfg0.win 6).blk t).view.emb (ix2 r e)) 1 = e := Fin.ext (by blk_simp [idx t])
  unfold lastLines lineEntry lastPos
  simp only [h0, h1]
  refine Eq.trans (b := k0_pay2 (iblk m c 0 t) (scr m c t.val) (ix2 r e)) (by blk_simp; rw [after_6]; rfl) ?_
  rw [lined_apply, rows_prod]
  exact entry_congr _ _ (by dsimp only; omega) (by dsimp only; omega)

/-- The kernel's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v2_0) = middleCols (m ((c : Thread nD τ).loc main_arg0)) (m ((c : Thread nD τ).loc main_arg1))
      ∧ r.2.mem ((c : Thread nD τ).loc main_v2_1) = lines 10240 (by omega) (m ((c : Thread nD τ).loc main_arg0)) (m ((c : Thread nD τ).loc main_arg1))
      ∧ r.2.mem ((c : Thread nD τ).loc main_v2_2) = lines 11264 (by omega) (m ((c : Thread nD τ).loc main_arg0)) (m ((c : Thread nD τ).loc main_arg1))
      ∧ r.2.mem ((c : Thread nD τ).loc main_v2_3) = lastLines (m ((c : Thread nD τ).loc main_arg0)) (m ((c : Thread nD τ).loc main_arg1))
      ∧ r.2.mem ((c : Thread nD τ).loc main_v2_4) = middleCols (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1.1 c).1 3).trans (rows_final m c), ((h.1.1 c).1 4).trans (compressed_final m c),
      ((h.1.1 c).1 5).trans (selected_final m c), ((h.1.1 c).1 6).trans (window_final m c), ((h.1.1 c).1 7).trans (samples_final m c), h.2.1 c⟩)
    (θ_run_and (ends m ρ) (quiescent m ρ))

end Cert.KvIdeal.Steps

namespace Cert.KvReferenceIdeal.Steps

open Cert.KvReferenceIdeal Cert.KvReferenceIdeal.Gen
open Cert.Layer
open Cert.ProjIdeal.Steps (entry)
open Cert.KvIdeal.Steps (middleCols lines lastLines lastPos entry_congr)

variable (m : (ℓ : Loc nD τ sig) → Buf (Elt Ideal) ℓ)

/-- The rows' projection, by sequence and position, at an index. -/
theorem rows_apply (a : Vec Ideal S8192x2048 .bf16) (w : Vec Ideal S1x2048x23088 .f32) (b : Fin 2) (p : Fin 4096) (n : Fin 23088) :
    Host.dotGeneral (F := Ideal) (φ₁ := .f32) (φ₂ := .f32) dot_S2x4096x2048_S2048x23088_S2x4096x23088_2_0_01_1_n_n none
        (shapeCast _ (extf .f32 a bitsLt_bf16_f32) shapeCasts_S8192x2048_S2x4096x2048) (shapeCast _ w shapeCasts_S1x2048x23088_S2048x23088) (ix3 b p n)
      = entry a w ⟨b.val * 4096 + p.val, by omega⟩ n := by
  pointwise [entry, dotRow]

/-- The samples' projection at an index. -/
theorem samples_apply (a : Vec Ideal S8x2048 .bf16) (w : Vec Ideal S1x2048x23088 .f32) (p : Fin 8) (n : Fin 23088) :
    Host.dotGeneral (F := Ideal) (φ₁ := .f32) (φ₂ := .f32) dot_S8x2048_S2048x23088_S8x23088_1_0_0_1_n_n none
        (extf .f32 a bitsLt_bf16_f32) (shapeCast _ w shapeCasts_S1x2048x23088_S2048x23088) (ix2 p n)
      = entry a w p n := by
  pointwise [entry, dotRow]

/-- The middle columns of the samples. -/
theorem samples_slice (z : Vec Ideal S8x23088 .f32) (p : Fin 8) (n : Fin 3072) :
    extractStridedSlice S8x3072 ![0, 10240] z slices_S8x23088_S8x3072_0_10240 (ix2 p n) = z (ix2 p ⟨10240 + n.val, by omega⟩) := by
  pointwise []

/-- The middle columns of the rows. -/
theorem rows_slice (z : Vec Ideal S2x4096x23088 .f32) (p : Fin 8192) (n : Fin 3072) :
    shapeCast S8192x3072 (extractStridedSlice S2x4096x3072 ![0, 0, 10240] z slices_S2x4096x23088_S2x4096x3072_0_0_10240) shapeCasts_S2x4096x3072_S8192x3072 (ix2 p n)
      = z (ix3 ⟨p.val / 4096, by omega⟩ ⟨p.val % 4096, by omega⟩ ⟨10240 + n.val, by omega⟩) := by
  pointwise []

/-- Each cache's rows of 128 columns. -/
theorem compressed_slice (z : Vec Ideal S2x4096x23088 .f32) (r : Fin 65536) (e : Fin 128) :
    shapeCast S65536x128 (extractStridedSlice S2x4096x1024 ![0, 0, 10240] z slices_S2x4096x23088_S2x4096x1024_0_0_10240) shapeCasts_S2x4096x1024_S65536x128 (ix2 r e)
      = z (ix3 ⟨r.val / 32768, by omega⟩ ⟨r.val / 8 % 4096, by omega⟩ ⟨10240 + (r.val % 8 * 128 + e.val), by omega⟩) := by
  pointwise []
theorem selected_slice (z : Vec Ideal S2x4096x23088 .f32) (r : Fin 65536) (e : Fin 128) :
    shapeCast S65536x128 (extractStridedSlice S2x4096x1024 ![0, 0, 11264] z slices_S2x4096x23088_S2x4096x1024_0_0_11264) shapeCasts_S2x4096x1024_S65536x128 (ix2 r e)
      = z (ix3 ⟨r.val / 32768, by omega⟩ ⟨r.val / 8 % 4096, by omega⟩ ⟨11264 + (r.val % 8 * 128 + e.val), by omega⟩) := by
  pointwise []
theorem window_slice (z : Vec Ideal S2x4096x23088 .f32) (r : Fin 8192) (e : Fin 128) :
    shapeCast S8192x128 (extractStridedSlice S2x512x1024 ![0, 3584, 0] (extractStridedSlice S2x4096x1024 ![0, 0, 12288] z slices_S2x4096x23088_S2x4096x1024_0_0_12288)
        slices_S2x4096x1024_S2x512x1024_0_3584_0) shapeCasts_S2x512x1024_S8192x128 (ix2 r e)
      = z (ix3 ⟨r.val / 4096, by omega⟩ ⟨3584 + r.val / 8 % 512, by omega⟩ ⟨12288 + (r.val % 8 * 128 + e.val), by omega⟩) := by
  pointwise []

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v19) = middleCols (m ((c : Thread nD τ).loc main_arg0)) (m ((c : Thread nD τ).loc main_arg1))
      ∧ r.2.mem ((c : Thread nD τ).loc main_v20) = lines 10240 (by omega) (m ((c : Thread nD τ).loc main_arg0)) (m ((c : Thread nD τ).loc main_arg1))
      ∧ r.2.mem ((c : Thread nD τ).loc main_v21) = lines 11264 (by omega) (m ((c : Thread nD τ).loc main_arg0)) (m ((c : Thread nD τ).loc main_arg1))
      ∧ r.2.mem ((c : Thread nD τ).loc main_v23) = lastLines (m ((c : Thread nD τ).loc main_arg0)) (m ((c : Thread nD τ).loc main_arg1))
      ∧ r.2.mem ((c : Thread nD τ).loc main_v24) = middleCols (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, ?_, ?_, ?_, ?_, (h c).2.2.2.2.2⟩) (Value.run m ρ)
  · rw [(h c).1]
    funext y
    obtain ⟨p, n, rfl⟩ : ∃ (p : Fin 8192) (n : Fin 3072), y = ix2 p n := ⟨y 0, y 1, eq_ix2 y⟩
    refine ((rows_slice _ p n).trans (rows_apply _ _ _ _ _)).trans ?_
    exact entry_congr _ _ (by dsimp only [ix2]; omega) rfl
  · rw [(h c).2.1]
    funext y
    obtain ⟨r, e, rfl⟩ : ∃ (r : Fin 65536) (e : Fin 128), y = ix2 r e := ⟨y 0, y 1, eq_ix2 y⟩
    refine ((compressed_slice _ r e).trans (rows_apply _ _ _ _ _)).trans ?_
    exact entry_congr _ _ (by dsimp only [ix2]; omega) rfl
  · rw [(h c).2.2.1]
    funext y
    obtain ⟨r, e, rfl⟩ : ∃ (r : Fin 65536) (e : Fin 128), y = ix2 r e := ⟨y 0, y 1, eq_ix2 y⟩
    refine ((selected_slice _ r e).trans (rows_apply _ _ _ _ _)).trans ?_
    exact entry_congr _ _ (by dsimp only [ix2]; omega) rfl
  · rw [(h c).2.2.2.1]
    funext y
    obtain ⟨r, e, rfl⟩ : ∃ (r : Fin 8192) (e : Fin 128), y = ix2 r e := ⟨y 0, y 1, eq_ix2 y⟩
    refine ((window_slice _ r e).trans (rows_apply _ _ _ _ _)).trans ?_
    exact entry_congr _ _ (by unfold lastPos; dsimp only [ix2]; omega) rfl
  · rw [(h c).2.2.2.2.1]
    funext y
    obtain ⟨p, n, rfl⟩ : ∃ (p : Fin 8) (n : Fin 3072), y = ix2 p n := ⟨y 0, y 1, eq_ix2 y⟩
    exact (samples_slice _ p n).trans (samples_apply _ _ _ _)

end Cert.KvReferenceIdeal.Steps

end
-- ==== Proof.NormValue.lean ====
module

public import proofs.«01_k».proof.Proof.LayerSpec
public import proofs.«01_k».proof.Proof.Gen.NormIdeal.Value
public import proofs.«01_k».proof.Proof.Gen.NormReferenceIdeal.Run
public import Idealize.ShloMosaic.Lib.Pipeline.ValueKit
public import Idealize.ShloMosaic.Lib.StableHlo.ReadAt

/-! The input norm over the extended reals: the kernel's blocks and the reference's array. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.NormIdeal.Steps

open Cert.NormIdeal Cert.NormIdeal.Gen
open Cert.Layer

/-- The normed rows. -/
def normOf (x : S8192x2048.Idx → EReal) (g : S1x2048.Idx → EReal) : S8192x2048.Idx → EReal :=
  fun y => rms (n := 2048) (fun n => x (ix2 (y 0) n)) (fun n => g (ix2 0 n)) (y 1)

/-- One block of the kernel at an index. -/
theorem block_apply (x0 : Vec Ideal S1024x2048 .f32) (x1 : Vec Ideal S1x2048 .f32) (p : Fin 1024) (n : Fin 2048) :
    out0_2 x0 x1 (ix2 p n) = (rms (fun n => x0 (ix2 p n)) (fun n => x1 (ix2 0 n)) n : EReal) := by
  have hz : (![0, 0] : Fin 2 → ℕ) = 0 := funext fun i => by fin_cases i <;> rfl
  unfold out0_2
  rw [View.canon_cons_unit_zero hz]
  simp only [View.ld_unit_zero (S := S1024x2048) hz, View.ld_unit_zero (S := S1x2048) hz]
  pointwise [k0_pay1, rms]

variable (m : (ℓ : Loc nD τ sig) → Buf (Elt Ideal) ℓ) (c : Dev nD)

/-- The block indices at every step. -/
theorem idx : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

/-- There are 8 steps. -/
theorem lt8 (t : Fin cfg0.N) : t.val < 8 := lt_of_lt_of_eq t.isLt N_0

/-- The norm's weight as the call takes it. -/
theorem g_entry (n : Fin 2048) : V m c main_v1 (ix2 0 n) = m ((c : Thread nD τ).loc main_arg1) (ix2 0 n) := by
  unfold V
  after_reads_at

/-- The rows' block at a step, as entries of the argument. -/
theorem x_block (t : Fin cfg0.N) (p : Fin 1024) (n : Fin 2048) : iblk m c 0 t (ix2 p n)
    = m ((c : Thread nD τ).loc main_arg0) (ix2 ⟨t.val * 1024 + p.val, by have := lt8 t; omega⟩ n) := by
  have := lt8 t
  blk_ext [iblk, V, idx t]

/-- The weight's block at a step, as entries of the argument. -/
theorem g_block (t : Fin cfg0.N) (n : Fin 2048) :
    iblk m c 1 t (ix2 0 n) = m ((c : Thread nD τ).loc main_arg1) (ix2 0 n) := by
  refine Eq.trans ?_ (g_entry m c n)
  blk_ext [iblk, idx t]

/-- The result: the normed rows of the argument. -/
theorem final : (dats m 0 c).arrAt 2 cfg0.N
    = normOf (m ((c : Thread nD τ).loc main_arg0)) (m ((c : Thread nD τ).loc main_arg1)) := by
  refine (dats m 0 c).arrAt_eq_of_covers 2 _ (by decide +kernel) fun t hf y => ?_
  obtain ⟨p, n, rfl⟩ : ∃ (p : Fin 1024) (n : Fin 2048), y = ix2 p n := ⟨y 0, y 1, eq_ix2 y⟩
  have := lt8 t
  have h0 : (((cfg0.win 2).blk t).view.emb (ix2 p n)) 0 = (⟨t.val * 1024 + p.val, by omega⟩ : Fin 8192) :=
    Fin.ext (by blk_simp [idx t])
  have h1 : (((cfg0.win 2).blk t).view.emb (ix2 p n)) 1 = n := Fin.ext (by blk_simp [idx t])
  unfold normOf
  rw [h0, h1]
  refine Eq.trans (b := out0_2 (iblk m c 0 t) (iblk m c 1 t) (ix2 p n)) (by blk_simp; rw [after0_2]) ?_
  rw [block_apply]
  simp only [x_block, g_block]

end Cert.NormIdeal.Steps

namespace Cert.NormReferenceIdeal.Steps

open Cert.NormReferenceIdeal Cert.NormReferenceIdeal.Gen
open Cert.Layer

variable (m : (ℓ : Loc nD τ sig) → Buf (Elt Ideal) ℓ)

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v14) = Cert.NormIdeal.Steps.normOf (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, (h c).2⟩) (Value.run m ρ)
  rw [(h c).1]
  funext y
  obtain ⟨p, n, rfl⟩ : ∃ (p : Fin 8192) (n : Fin 2048), y = ix2 p n := ⟨y 0, y 1, eq_ix2 y⟩
  pointwise [Cert.NormIdeal.Steps.normOf, rms]

end Cert.NormReferenceIdeal.Steps
-- ==== Proof.MemKvValue.lean ====
module

public import proofs.«01_k».proof.Proof.LayerSpec
public import proofs.«01_k».proof.Proof.Gen.MemKvIdeal.Value
public import proofs.«01_k».proof.Proof.Gen.MemKvReferenceIdeal.Run
public import Idealize.ShloMosaic.Lib.Pipeline.ValueKit
public import Idealize.ShloMosaic.Lib.StableHlo.ReadAt
public import Idealize.ShloMosaic.Lib.WholeRead

/-! The memory's keys and values over the extended reals: the kernel's blocks and the reference's array. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.MemKvIdeal.Steps

open Cert.MemKvIdeal Cert.MemKvIdeal.Gen
open Cert.Layer

/-- The memory's rows through the memory's weights. -/
def memKvOf (a : S512x2048.Idx → EReal) (w : S1x2048x3072.Idx → EReal) : S512x3072.Idx → EReal :=
  fun y => dotRow (k := 2048) (n := 3072) (fun k => a (ix2 (y 0) k)) (fun k n => w (ix3 0 k n)) (y 1)

/-- A step leaves the rows times the weights' block rounded. -/
theorem left_eq (c : Dev nD) (i : grid0.Coords) (b0 : Memref sig .tc .vmem S512x2048 .bf16) (h0 : b0.IsWhole)
    (b1 : Memref sig .tc .vmem S2048x1024 .f32) (h1 : b1.IsWhole) (b2 : Memref sig .tc .vmem S512x1024 .f32)
    (h2 : b2.IsWhole) (b3 : Memref sig .tc .vmem S2048x1024 .bf16) (h3 : b3.IsWhole) (hc : cond0_0 i)
    (x0 : Vec Ideal S512x2048 .bf16) (x1 : Vec Ideal S2048x1024 .f32) :
    out0_A_2 c i b0 h0 b1 h1 b2 h2 b3 h3 hc x0 x1 = k0_pay2 x0 (k0_pay1 x1) := by
  have hz : (![0, 0] : Fin 2 → ℕ) = 0 := funext fun i => by fin_cases i <;> rfl
  have e0 := funext fun x => h0.readAt_unread x0 (Rect.unit (s := S512x2048) ![0, 0] ![512, 2048] inb_S512x2048_S512x2048_0_0).toLoadRect x
  have e1 := funext fun x => h1.readAt_unread x1 (Rect.unit (s := S2048x1024) ![0, 0] ![2048, 1024] inb_S2048x1024_S2048x1024_0_0).toLoadRect x
  have e2 : kernelRun0_A.sl.v4 c b1 h1 b3 x1 = k0_pay1 x1 := by
    unfold kernelRun0_A.sl.v4 kernelRun0_A.sl.HS0_1
    refine (View.readCov_cons_toLoadRect ..).trans (congrArg k0_pay1 (e1.trans ?_))
    exact View.ld_unit_zero (S := S2048x1024) hz _ x1
  unfold out0_A_2
  rw [View.read_writes_junk_eq_canon]
  unfold kernelRun0_A
  refine (View.canon_cons_unit_zero (S := S512x1024) hz _ _ _).trans ?_
  rw [e2]
  exact congrArg (k0_pay2 · _) (e0.trans (View.ld_unit_zero (S := S512x2048) hz _ x0))

/-- A step's product at an index. -/
theorem product_apply (x0 : Vec Ideal S512x2048 .bf16) (x1 : Vec Ideal S2048x1024 .f32) (p : Fin 512) (n : Fin 1024) :
    k0_pay2 x0 (k0_pay1 x1) (ix2 p n) = (dotRow (fun k => x0 (ix2 p k)) (fun k n => x1 (ix2 k n)) n : EReal) := by
  pointwise [k0_pay1, k0_pay2, dotRow]

variable (m : (ℓ : Loc nD τ sig) → Buf (Elt Ideal) ℓ) (c : Dev nD)

/-- The block indices at every step. -/
theorem idx : ∀ t : Fin cfg0.N,
    win0_0.index t = ![0, 0] ∧ win0_1.index t = ![0, t.val] ∧ win0_2.index t = ![0, t.val] :=
  (by decide +kernel : ∀ t : Fin grid0.N,
    win0_0.index t = ![0, 0] ∧ win0_1.index t = ![0, t.val] ∧ win0_2.index t = ![0, t.val])

/-- There are three steps. -/
theorem lt3 (t : Fin cfg0.N) : t.val < 3 := lt_of_lt_of_eq t.isLt N_0

/-- The weights as the call takes them. -/
theorem w_entry (k : Fin 2048) (n : Fin 3072) :
    V m c main_v0 (ix2 k n) = m ((c : Thread nD τ).loc main_arg1) (ix3 0 k n) := by
  unfold V
  after_reads_at

/-- The rows' block at a step, as entries of the argument. -/
theorem a_block (t : Fin cfg0.N) (p : Fin 512) (k : Fin 2048) :
    iblk m c 0 t (ix2 p k) = m ((c : Thread nD τ).loc main_arg0) (ix2 p k) := by
  blk_ext [iblk, V, idx t]

/-- The weights' block at a step, as entries of the argument. -/
theorem w_block (t : Fin cfg0.N) (k : Fin 2048) (n : Fin 1024) : iblk m c 1 t (ix2 k n)
    = m ((c : Thread nD τ).loc main_arg1) (ix3 0 k ⟨t.val * 1024 + n.val, by have := lt3 t; omega⟩) := by
  have := lt3 t
  refine Eq.trans ?_ (w_entry m c k _)
  blk_ext [iblk, idx t]

/-- The result: the memory's keys and values of the arguments. -/
theorem final : (dats m 0 c).arrAt 2 cfg0.N
    = memKvOf (m ((c : Thread nD τ).loc main_arg0)) (m ((c : Thread nD τ).loc main_arg1)) := by
  refine (dats m 0 c).arrAt_eq_of_covers 2 _ (by decide +kernel) fun t hf y => ?_
  obtain ⟨p, n, rfl⟩ : ∃ (p : Fin 512) (n : Fin 1024), y = ix2 p n := ⟨y 0, y 1, eq_ix2 y⟩
  have := lt3 t
  have h0 : (((cfg0.win 2).blk t).view.emb (ix2 p n)) 0 = p := Fin.ext (by blk_simp [idx t])
  have h1 : (((cfg0.win 2).blk t).view.emb (ix2 p n)) 1 = (⟨t.val * 1024 + n.val, by omega⟩ : Fin 3072) :=
    Fin.ext (by blk_simp [idx t])
  unfold memKvOf
  rw [h0, h1]
  refine Eq.trans (b := outsAt0 m c t (ix2 p n)) (by blk_simp; rw [after0_2]) ?_
  unfold outsAt0
  rw [left_eq]
  refine (product_apply _ _ p n).trans ?_
  simp only [dotRow, a_block, w_block]

end Cert.MemKvIdeal.Steps

namespace Cert.MemKvReferenceIdeal.Steps

open Cert.MemKvReferenceIdeal Cert.MemKvReferenceIdeal.Gen
open Cert.Layer

variable (m : (ℓ : Loc nD τ sig) → Buf (Elt Ideal) ℓ)

/-- The projection at an index. -/
theorem dot_apply (a : Vec Ideal S512x2048 .bf16) (w : Vec Ideal S1x2048x3072 .f32) (p : Fin 512) (n : Fin 3072) :
    shapeCast S512x3072 (Host.dotGeneral (F := Ideal) (φ₁ := .f32) (φ₂ := .f32) dot_S2x256x2048_S2048x3072_S2x256x3072_2_0_01_1_n_n none
        (shapeCast S2x256x2048 (extf .f32 a bitsLt_bf16_f32) shapeCasts_S512x2048_S2x256x2048)
        (shapeCast _ w shapeCasts_S1x2048x3072_S2048x3072)) shapeCasts_S2x256x3072_S512x3072 (ix2 p n)
      = (dotRow (fun k => a (ix2 p k)) (fun k n => w (ix3 0 k n)) n : EReal) := by
  pointwise [dotRow]

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v4) = Cert.MemKvIdeal.Steps.memKvOf (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, (h c).2⟩) (Value.run m ρ)
  rw [(h c).1]
  funext y
  obtain ⟨p, n, rfl⟩ : ∃ (p : Fin 512) (n : Fin 3072), y = ix2 p n := ⟨y 0, y 1, eq_ix2 y⟩
  exact dot_apply _ _ p n

end Cert.MemKvReferenceIdeal.Steps
-- ==== Proof.MemValue.lean ====
module

public import proofs.«01_k».proof.Proof.LayerSpec
public import proofs.«01_k».proof.Proof.Gen.MemIdeal.Value
public import proofs.«01_k».proof.Proof.Gen.MemReferenceIdeal.Run
public import Idealize.ShloMosaic.Lib.Pipeline.ValueKit
public import Idealize.ShloMosaic.Lib.StableHlo.ReadAt

/-! The attention into the memory over the extended reals: the kernel's blocks and the reference's array. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.Layer

/-- The largest of a row of scores. -/
def peak {n : ℕ} (s : Fin n → EReal) : EReal := Finset.univ.fold max (Ideal.ofBits FTy.f32 0xFF800000#32) s

/-- The maximum's start is not above the largest. -/
theorem max_peak {n : ℕ} (s : Fin n → EReal) : max (Ideal.ofBits FTy.f32 0xFF800000#32) (peak s) = peak s := by
  unfold peak
  generalize Ideal.ofBits FTy.f32 0xFF800000#32 = c
  exact max_eq_right (Finset.le_fold_max _ |>.2 (Or.inl le_rfl))

/-- A row's scores: the query against each key, scaled. -/
def score {d n : ℕ} (q : Fin d → EReal) (k : Fin n → Fin d → EReal) (i : Fin n) : EReal :=
  (∑ x, q x * k i x) * Ideal.ofBits FTy.f32 0x3D5105EC#32

/-- A row's weights: the scores' exponentials over their sum. -/
def share {n : ℕ} (s : Fin n → EReal) (i : Fin n) : EReal :=
  Ideal.div (Ideal.exp (s i - peak s)) (∑ x, Ideal.exp (s x - peak s))

/-- A row of attention: the values weighted by the query's shares. -/
def attend {d n : ℕ} (q : Fin d → EReal) (k v : Fin n → Fin d → EReal) : Fin d → EReal :=
  dotRow (share (score q k)) v

end Cert.Layer

namespace Cert.MemIdeal.Steps

open Cert.MemIdeal Cert.MemIdeal.Gen
open Cert.Layer

/-- One head's row of the block. -/
def headRow (v0 : Vec Ideal S512x1536 .f32) (v1 : Vec Ideal S256x3072 .f32) (h : Fin 4) (p : Fin 512) : Fin 384 → EReal :=
  attend (fun d => v0 (ix2 p ⟨h.val * 384 + d.val, by omega⟩))
    (fun i d => v1 (ix2 i ⟨h.val * 384 + d.val, by omega⟩))
    (fun i d => v1 (ix2 i ⟨1536 + h.val * 384 + d.val, by omega⟩))

/-- The first head. -/
theorem head0_apply (v0 : Vec Ideal S512x1536 .f32) (v1 : Vec Ideal S256x3072 .f32) (p : Fin 512) (d : Fin 384) :
    k0_pay2 v0 v1 (ix2 p d) = headRow v0 v1 0 p d := by
  pointwise [k0_pay2, headRow, attend, dotRow, share, score, peak]

/-- The second head. -/
theorem head1_apply (v0 : Vec Ideal S512x1536 .f32) (v1 : Vec Ideal S256x3072 .f32) (p : Fin 512) (d : Fin 384) :
    k0_pay3 v0 v1 (ix2 p d) = headRow v0 v1 1 p d := by
  pointwise [k0_pay3, headRow, attend, dotRow, share, score, peak]

section
variable (v0 : Vec Ideal S512x1536 .f32) (v1 : Vec Ideal S256x3072 .f32) (u0 u1 : Vec Ideal S512x384 .f32)
    (p : Fin 512) (d : Fin 384)

/-- The four heads side by side, each at its columns. -/
theorem heads_first : k0_pay1 v0 v1 u0 u1 (k0_pay4 v1) (ix2 p ⟨d.val, by omega⟩) = (u0 (ix2 p d) : EReal) := by
  pointwise [k0_pay1]
theorem heads_second : k0_pay1 v0 v1 u0 u1 (k0_pay4 v1) (ix2 p ⟨384 + d.val, by omega⟩) = (u1 (ix2 p d) : EReal) := by
  pointwise [k0_pay1]
theorem heads_third :
    k0_pay1 v0 v1 u0 u1 (k0_pay4 v1) (ix2 p ⟨768 + d.val, by omega⟩) = headRow v0 v1 2 p d := by
  have e : 768 + d.val - 384 - 384 = d.val := by omega
  pointwise [k0_pay1, k0_pay4, headRow, attend, dotRow, share, score, peak]
  rw [dif_neg (by omega), dif_neg (by omega), dif_pos (by omega)]
  simp only [e]
theorem heads_fourth :
    k0_pay1 v0 v1 u0 u1 (k0_pay4 v1) (ix2 p ⟨1152 + d.val, by omega⟩) = headRow v0 v1 3 p d := by
  have e : 1152 + d.val - 384 - 384 - 384 = d.val := by omega
  pointwise [k0_pay1, k0_pay4, headRow, attend, dotRow, share, score, peak]
  rw [dif_neg (by omega), dif_neg (by omega), dif_neg (by omega)]
  simp only [e]
end

/-- A load of the first 1536 columns of the block. -/
theorem ld_apply (x0 : Vec Ideal S512x2048 .f32) (p : Fin 512) (j : Fin 1536) :
    View.ld x0 r0_0 (ix2 p j) = x0 (ix2 p ⟨j.val, by omega⟩) := by
  refine congrArg x0 (funext fun a => ?_)
  fin_cases a <;> exact Fin.ext (by simp [ValueKit.rect_emb_unit_val])

/-- One block of the kernel at a head's column. -/
theorem block_apply (x0 : Vec Ideal S512x2048 .f32) (x1 : Vec Ideal S256x3072 .f32) (p : Fin 512) (h : Fin 4) (d : Fin 384) :
    out0_2 x0 x1 (ix2 p ⟨h.val * 384 + d.val, by omega⟩) = headRow (View.ld x0 r0_0) x1 h p d := by
  have hz : (![0, 0] : Fin 2 → ℕ) = 0 := funext fun i => by fin_cases i <;> rfl
  unfold out0_2
  rw [View.canon_cons_unit_zero hz]
  simp only [View.ld_unit_zero (S := S256x3072) hz]
  fin_cases h
  · refine (congrArg _ (congrArg (ix2 p) (Fin.ext ?_))).trans ((heads_first _ _ _ _ p d).trans (head0_apply _ _ p d))
    simp
  · refine (congrArg _ (congrArg (ix2 p) (Fin.ext ?_))).trans ((heads_second _ _ _ _ p d).trans (head1_apply _ _ p d))
    simp
  · exact heads_third _ _ _ _ p d
  · exact heads_fourth _ _ _ _ p d

/-- The attention into the memory, by head: a row's query against the keys and values of its sequence's memory. -/
def memRow (z : S8192x10240.Idx → EReal) (kv : S512x3072.Idx → EReal) (p : Fin 8192) (h : Fin 4) : Fin 384 → EReal :=
  attend (fun d => z (ix2 p ⟨8192 + (h.val * 384 + d.val), by omega⟩))
    (fun (i : Fin 256) d => kv (ix2 ⟨p.val / 4096 * 256 + i.val, by omega⟩ ⟨h.val * 384 + d.val, by omega⟩))
    (fun (i : Fin 256) d => kv (ix2 ⟨p.val / 4096 * 256 + i.val, by omega⟩ ⟨1536 + (h.val * 384 + d.val), by omega⟩))

/-- The same as an array, the heads side by side. -/
def memOf (z : S8192x10240.Idx → EReal) (kv : S512x3072.Idx → EReal) : S8192x1536.Idx → EReal := fun y =>
  memRow z kv (y 0) ⟨(y 1).val / 384, by have : (y 1).val < 1536 := (y 1).isLt; omega⟩ ⟨(y 1).val % 384, by omega⟩

variable (m : (ℓ : Loc nD τ sig) → Buf (Elt Ideal) ℓ) (c : Dev nD)

/-- The block indices at every step. -/
theorem idx : ∀ t : Fin cfg0.N,
    win0_0.index t = ![t.val, 4] ∧ win0_1.index t = ![t.val / 8, 0] ∧ win0_2.index t = ![t.val, 0] :=
  (by decide +kernel : ∀ t : Fin grid0.N,
    win0_0.index t = ![t.val, 4] ∧ win0_1.index t = ![t.val / 8, 0] ∧ win0_2.index t = ![t.val, 0])

/-- There are 16 steps. -/
theorem lt16 (t : Fin cfg0.N) : t.val < 16 := lt_of_lt_of_eq t.isLt N_0

/-- The queries' block at a step, as entries of the argument. -/
theorem z_block (t : Fin cfg0.N) (p : Fin 512) (j : Fin 2048) : iblk m c 0 t (ix2 p j)
    = m ((c : Thread nD τ).loc main_arg0)
        (ix2 ⟨t.val * 512 + p.val, by have := lt16 t; omega⟩ ⟨8192 + j.val, by omega⟩) := by
  have := lt16 t
  blk_ext [iblk, V, idx t]

/-- The memory's block at a step, as entries of the argument. -/
theorem kv_block (t : Fin cfg0.N) (i : Fin 256) (j : Fin 3072) : iblk m c 1 t (ix2 i j)
    = m ((c : Thread nD τ).loc main_arg1) (ix2 ⟨t.val / 8 * 256 + i.val, by have := lt16 t; omega⟩ j) := by
  have := lt16 t
  blk_ext [iblk, V, idx t]

/-- A head's row of a step's block is the row of the arguments. -/
theorem row_block (t : Fin cfg0.N) (p : Fin 512) (h : Fin 4) :
    headRow (View.ld (iblk m c 0 t) r0_0) (iblk m c 1 t) h p
      = memRow (m ((c : Thread nD τ).loc main_arg0)) (m ((c : Thread nD τ).loc main_arg1))
          ⟨t.val * 512 + p.val, by have := lt16 t; omega⟩ h := by
  have e : (t.val * 512 + p.val) / 4096 = t.val / 8 := by omega
  have q : (fun d : Fin 384 => View.ld (iblk m c 0 t) r0_0 (ix2 p ⟨h.val * 384 + d.val, by omega⟩))
      = fun d => m ((c : Thread nD τ).loc main_arg0)
          (ix2 ⟨t.val * 512 + p.val, by have := lt16 t; omega⟩ ⟨8192 + (h.val * 384 + d.val), by omega⟩) :=
    funext fun d => (ld_apply (iblk m c 0 t) p _).trans (z_block m c t p _)
  unfold headRow memRow
  refine (congrArg (fun f => attend f _ _) q).trans ?_
  simp only [kv_block, e, Nat.add_assoc]

/-- The result: the attention of the arguments. -/
theorem final : (dats m 0 c).arrAt 2 cfg0.N
    = memOf (m ((c : Thread nD τ).loc main_arg0)) (m ((c : Thread nD τ).loc main_arg1)) := by
  refine (dats m 0 c).arrAt_eq_of_covers 2 _ (by decide +kernel) fun t hf y => ?_
  obtain ⟨p, n, rfl⟩ : ∃ (p : Fin 512) (n : Fin 1536), y = ix2 p n := ⟨y 0, y 1, eq_ix2 y⟩
  have := lt16 t
  have h0 : (((cfg0.win 2).blk t).view.emb (ix2 p n)) 0 = (⟨t.val * 512 + p.val, by omega⟩ : Fin 8192) :=
    Fin.ext (by blk_simp [idx t])
  have h1 : (((cfg0.win 2).blk t).view.emb (ix2 p n)) 1 = n := Fin.ext (by blk_simp [idx t])
  have hn : n = ⟨n.val / 384 * 384 + n.val % 384, by omega⟩ := Fin.ext (by simp only; omega)
  refine Eq.trans (b := memOf (m ((c : Thread nD τ).loc main_arg0)) (m ((c : Thread nD τ).loc main_arg1))
    (ix2 ⟨t.val * 512 + p.val, by omega⟩ n)) ?_ (congrArg _ ((eq_ix2 _).trans (congrArg₂ ix2 h0 h1))).symm
  refine Eq.trans (b := out0_2 (iblk m c 0 t) (iblk m c 1 t) (ix2 p n)) (by blk_simp; rw [after0_2]) ?_
  refine (congrArg (fun n => out0_2 (iblk m c 0 t) (iblk m c 1 t) (ix2 p n)) hn).trans ?_
  refine (block_apply _ _ p ⟨n.val / 384, by omega⟩ ⟨n.val % 384, by omega⟩).trans ?_
  rw [row_block]
  rfl

end Cert.MemIdeal.Steps

namespace Cert.MemReferenceIdeal.Steps

open Cert.MemReferenceIdeal Cert.MemReferenceIdeal.Gen
open Cert.Layer

/-- The reference's scores, scaled. -/
def scores (z : Vec Ideal S8192x10240 .f32) (kv : Vec Ideal S512x3072 .f32) : FVec Ideal S2x4x4096x256 .f32 :=
  mulf (F := Ideal) (Host.dotGeneral (F := Ideal) (φ₁ := .f32) (φ₂ := .f32) dot_S2x4096x4x384_S2x256x4x384_S2x4x4096x256_3_3_1_1_02_02 none
    (shapeCast _ (extractStridedSlice S8192x1536 ![0, 8192] z slices_S8192x10240_S8192x1536_0_8192)
      shapeCasts_S8192x1536_S2x4096x4x384)
    (shapeCast _ (extractStridedSlice S2x256x1x4x384 ![0, 0, 0, 0, 0]
      (shapeCast _ kv shapeCasts_S512x3072_S2x256x2x4x384) slices_S2x256x2x4x384_S2x256x1x4x384_0_0_0_0_0)
      shapeCasts_S2x256x1x4x384_S2x256x4x384))
    (broadcastInDim S2x4x4096x256 ![] bcast_S_S2x4x4096x256 (constant S_ .f32 0x3D5105EC#32))

/-- The exponentials of scores against their largest. -/
def powers (s : FVec Ideal S2x4x4096x256 .f32) : FVec Ideal S2x4x4096x256 .f32 :=
  Host.exp (F := Ideal) (subf s (broadcastInDim S2x4x4096x256 ![0, 1, 2, 3] bcast_S2x4x4096x1_S2x4x4096x256_0_1_2_3
    (broadcastInDim S2x4x4096x1 ![0, 1, 2] bcast_S2x4x4096_S2x4x4096x1_0_1_2
      (maximumf (broadcastInDim S2x4x4096 ![] bcast_S_S2x4x4096 (constant S_ .f32 0xFF800000#32))
        (Host.reduce FloatOps.maximumf s (constant S_ .f32 0xFF800000#32) reducesTo_S2x4x4096x256_S2x4x4096_d3 h_S_)))))

/-- The reference's shares of powers. -/
def shares (e : FVec Ideal S2x4x4096x256 .f32) : FVec Ideal S2x4x4096x256 .f32 :=
  Host.divf (F := Ideal) e (broadcastInDim S2x4x4096x256 ![0, 1, 2, 3] bcast_S2x4x4096x1_S2x4x4096x256_0_1_2_3
    (broadcastInDim S2x4x4096x1 ![0, 1, 2] bcast_S2x4x4096_S2x4x4096x1_0_1_2
      (Host.reduceAdd e (constant S_ .f32 0x00000000#32) reducesTo_S2x4x4096x256_S2x4x4096_d3 h_S_)))

/-- The values weighted by shares, as the reference lays its result out. -/
def weighted (kv : Vec Ideal S512x3072 .f32) (w : FVec Ideal S2x4x4096x256 .f32) : FVec Ideal S8192x1536 .bf16 :=
  truncf (F := Ideal) .bf16 (shapeCast S8192x1536 (transpose S2x4096x4x384 [0, 3, 1, 2]
    (Host.dotGeneral (F := Ideal) (φ₁ := .f32) (φ₂ := .f32) dot_S2x256x4x384_S2x4x4096x256_S2x4x384x4096_1_3_3_2_02_01 none
      (shapeCast _ (extractStridedSlice S2x256x1x4x384 ![0, 0, 1, 0, 0]
        (shapeCast _ kv shapeCasts_S512x3072_S2x256x2x4x384) slices_S2x256x2x4x384_S2x256x1x4x384_0_0_1_0_0)
        shapeCasts_S2x256x1x4x384_S2x256x4x384) w)
    transposes_S2x4x384x4096_S2x4096x4x384_0_3_1_2) shapeCasts_S2x4096x4x384_S8192x1536) bitsLt_bf16_f32

section
variable (z : Vec Ideal S8192x10240 .f32) (kv : Vec Ideal S512x3072 .f32) (s : FVec Ideal S2x4x4096x256 .f32)
    (b : Fin 2) (h : Fin 4) (p : Fin 4096) (i : Fin 256)

/-- The reference's scores at an index. -/
theorem scores_apply : scores z kv (ix4 b h p i)
      = score (fun d : Fin 384 => z (ix2 ⟨b.val * 4096 + p.val, by omega⟩ ⟨8192 + (h.val * 384 + d.val), by omega⟩))
          (fun (i : Fin 256) d => kv (ix2 ⟨b.val * 256 + i.val, by omega⟩ ⟨h.val * 384 + d.val, by omega⟩)) i := by
  pointwise [scores, score]

/-- The largest score of a row. -/
theorem largest_apply :
    Host.reduce FloatOps.maximumf s (constant S_ .f32 0xFF800000#32) reducesTo_S2x4x4096x256_S2x4x4096_d3 h_S_ (ix3 b h p)
      = peak fun i => s (ix4 b h p i) := by
  pointwise [peak]

/-- The exponentials against any row of maxima. -/
theorem against_apply (v : FVec Ideal S2x4x4096 .f32) :
    Host.exp (F := Ideal) (subf s (broadcastInDim S2x4x4096x256 ![0, 1, 2, 3] bcast_S2x4x4096x1_S2x4x4096x256_0_1_2_3
      (broadcastInDim S2x4x4096x1 ![0, 1, 2] bcast_S2x4x4096_S2x4x4096x1_0_1_2
        (maximumf (broadcastInDim S2x4x4096 ![] bcast_S_S2x4x4096 (constant S_ .f32 0xFF800000#32)) v)))) (ix4 b h p i)
      = (Ideal.exp (s (ix4 b h p i) - max (Ideal.ofBits FTy.f32 0xFF800000#32) (v (ix3 b h p))) : EReal) := by
  pointwise

/-- The powers at an index. -/
theorem powers_apply : powers s (ix4 b h p i)
    = (Ideal.exp (s (ix4 b h p i) - peak fun i => s (ix4 b h p i)) : EReal) :=
  (against_apply s b h p i _).trans (congrArg (fun x : EReal => Ideal.exp (s (ix4 b h p i) - x))
    ((congrArg (max (Ideal.ofBits FTy.f32 0xFF800000#32)) (largest_apply s b h p)).trans (max_peak _)))

/-- The shares at an index. -/
theorem shares_apply : shares (powers s) (ix4 b h p i) = share (fun i => s (ix4 b h p i)) i := by
  refine Eq.trans (b := Ideal.div (powers s (ix4 b h p i)) (∑ i, powers s (ix4 b h p i))) ?_ ?_
  · pointwise [shares]
  · simp only [powers_apply]
    rfl

/-- The weighted values at an index. -/
theorem weighted_apply (p : Fin 8192) (n : Fin 1536) : weighted kv s (ix2 p n)
    = (dotRow (fun i => s (ix4 ⟨p.val / 4096, by omega⟩ ⟨n.val / 384, by omega⟩ ⟨p.val % 4096, by omega⟩ i))
        (fun (i : Fin 256) (d : Fin 384) => kv (ix2 ⟨p.val / 4096 * 256 + i.val, by omega⟩
          ⟨1536 + (n.val / 384 * 384 + d.val), by omega⟩)) ⟨n.val % 384, by omega⟩ : EReal) := by
  pointwise [weighted, dotRow]
  refine Finset.sum_congr rfl fun x _ => (mul_comm _ _).trans ?_
  simp only [Nat.add_assoc]

/-- The reference's operations give the attention. -/
theorem composed (z : Vec Ideal S8192x10240 .f32) (kv : Vec Ideal S512x3072 .f32) :
    weighted kv (shares (powers (scores z kv))) = Cert.MemIdeal.Steps.memOf z kv := by
  funext y
  obtain ⟨p, n, rfl⟩ : ∃ (p : Fin 8192) (n : Fin 1536), y = ix2 p n := ⟨y 0, y 1, eq_ix2 y⟩
  have e : p.val / 4096 * 4096 + p.val % 4096 = p.val := by omega
  refine (weighted_apply kv _ p n).trans ?_
  simp only [shares_apply, scores_apply, e]
  rfl
end

variable (m : (ℓ : Loc nD τ sig) → Buf (Elt Ideal) ℓ)

/-- The reference's run. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v24) = Cert.MemIdeal.Steps.memOf (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (composed _ _), (h c).2⟩) (Value.run m ρ)

end Cert.MemReferenceIdeal.Steps
-- ==== Proof.Chunk.lean ====
module

public import proofs.«01_k».proof.Proof.Gen.KernelIdeal.Frame
public import Idealize.ShloMosaic.Lib.Pipeline.Value

/-! One grid step of the retention kernel, chunk by chunk: the state after each of the sixteen chunks of 128 rows as a
recursion, and the two output blocks of a step in terms of it. -/

@[expose] public section

set_option maxRecDepth 16384

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

/-- Chunk `t` of a step is within its 2048 rows. -/
theorem inb256 (t : ℕ) : ∀ a, (![128 * (t % 16), 0] : Fin 2 → ℕ) a + S128x256.size a ≤ S2048x256.size a := by
  intro a
  have : t % 16 < 16 := Nat.mod_lt _ (by decide)
  fin_cases a
  · show 128 * (t % 16) + 128 ≤ 2048; omega
  · exact Nat.le_refl 256

/-- Chunk `t` of the rotation tables' 2048 rows. -/
theorem inb128 (t : ℕ) : ∀ a, (![128 * (t % 16), 0] : Fin 2 → ℕ) a + S128x128.size a ≤ S2048x128.size a := by
  intro a
  have : t % 16 < 16 := Nat.mod_lt _ (by decide)
  fin_cases a
  · show 128 * (t % 16) + 128 ≤ 2048; omega
  · exact Nat.le_refl 128

/-- The rectangle of chunk `t`'s rows of a 256-column block. -/
abbrev rect256 (t : ℕ) : Rect S2048x256 := Rect.unit (s := S2048x256) ![128 * (t % 16), 0] S128x256.size (inb256 t)

/-- The rectangle of chunk `t`'s rows of a 128-column block. -/
abbrev rect128 (t : ℕ) : Rect S2048x128 := Rect.unit (s := S2048x128) ![128 * (t % 16), 0] S128x128.size (inb128 t)

/-- Chunk `t`'s rows of a 256-column block. -/
abbrev rows256 (x : Vec F S2048x256 .f32) (t : ℕ) : Vec F S128x256 .f32 := View.ld x (rect256 t)

/-- Chunk `t`'s rows of a 128-column block. -/
abbrev rows128 (x : Vec F S2048x128 .f32) (t : ℕ) : Vec F S128x128 .f32 := View.ld x (rect128 t)

/-- The state after one chunk, from the state before it. -/
def stepState (k v : Vec F S128x256 .f32) (cos sin : Vec F S128x128 .f32) (zeta : Vec F S1x128x1 .f32)
    (gc : Vec F S1x1x1 .f32) (s : Vec F S1x1x256x256 .f32) : Vec F S1x1x256x256 .f32 :=
  k0_pay10 (k0_pay5 cos sin k) (k0_pay7 v) (k0_pay8 s) zeta gc

/-- One chunk's normalized and gated output, from the state before it. -/
def stepOut (q k v rg : Vec F S128x256 .f32) (cos sin : Vec F S128x128 .f32) (dmat : Vec F S1x128x128 .f32)
    (xi : Vec F S1x128x1 .f32) (gn : Vec F S1x256 .f32) (s : Vec F S1x1x256x256 .f32) : Vec F S128x256 .bf16 :=
  k0_pay13 (k0_pay11 gn) rg
    (k0_pay12 (k0_pay6 cos sin q) (k0_pay7 v) (k0_pay8 s) (k0_pay9 cos sin q k) dmat xi)

section
variable (x0 x1 x2 x3 : Vec F S2048x256 .f32) (x4 x5 : Vec F S2048x128 .f32) (x6 : Vec F S1x128x128 .f32)
  (x7 x8 : Vec F S1x128x1 .f32) (x9 : Vec F S1x1x1 .f32) (x10 : Vec F S1x256 .f32)

/-- The state after `t` chunks of a step that begins with the state `s`. -/
def states (s : Vec F S1x1x256x256 .f32) : ℕ → Vec F S1x1x256x256 .f32
  | 0 => s
  | t + 1 => stepState (rows256 x1 t) (rows256 x2 t) (rows128 x4 t) (rows128 x5 t) x8 x9 (states s t)

/-- Chunk `t`'s output in a step that begins with the state `s`. -/
def outs (s : Vec F S1x1x256x256 .f32) (t : ℕ) : Vec F S128x256 .bf16 :=
  stepOut (rows256 x0 t) (rows256 x1 t) (rows256 x2 t) (rows256 x3 t) (rows128 x4 t) (rows128 x5 t) x6 x7 x10
    (states x1 x2 x4 x5 x8 x9 s t)

/-- The sixteen stores of output rows, last first. -/
def outPieces (s : Vec F S1x1x256x256 .f32) : List (View.Piece (Elt F) S2048x256 .bf16) :=
  [15, 14, 13, 12, 11, 10, 9, 8, 7, 6, 5, 4, 3, 2, 1, 0].map fun t =>
    ⟨rect256 t, outs x0 x1 x2 x3 x4 x5 x6 x7 x8 x9 x10 s t⟩

end

/-- The state a step starts with when it resets it: the zero block. -/
abbrev zeroState : Vec F S1x1x256x256 .f32 := k0_pay2 (F := F)

theorem hz4 : (![0, 0, 0, 0] : Fin 4 → ℕ) = fun _ => 0 := funext fun a => by fin_cases a <;> rfl
theorem hz3 : (![0, 0, 0] : Fin 3 → ℕ) = fun _ => 0 := funext fun a => by fin_cases a <;> rfl
theorem hz2 : (![0, 0] : Fin 2 → ℕ) = fun _ => 0 := funext fun a => by fin_cases a <;> rfl

section
variable (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S1x128x1 .f32) (harg11 : arg11.IsWhole) (arg12 : Memref sig .tc .vmem S1x1x1 .f32) (harg12 : arg12.IsWhole) (arg13 : Memref sig .tc .vmem S1x256 .f32) (harg13 : arg13.IsWhole) (arg14 : Memref sig .tc .vmem S2048x256 .bf16) (harg14 : arg14.IsWhole) (arg15 : Memref sig .tc .vmem S1x1x256x256 .f32) (harg15 : arg15.IsWhole)
  (x0 : Vec F S2048x256 .f32) (x1 : Vec F S2048x256 .f32) (x2 : Vec F S2048x256 .f32) (x3 : Vec F S2048x256 .f32) (x4 : Vec F S2048x128 .f32) (x5 : Vec F S2048x128 .f32) (x6 : Vec F S1x128x128 .f32) (x7 : Vec F S1x128x1 .f32) (x8 : Vec F S1x128x1 .f32) (x9 : Vec F S1x1x1 .f32) (x10 : Vec F S1x256 .f32)

set_option maxHeartbeats 4000000 in
/-- A step that resets the state leaves the state after sixteen chunks from zero. -/
theorem outA12 (hc0 : cond0_0 i) :
    out0_A_12 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = states x1 x2 x4 x5 x8 x9 zeroState 16 := by
  unfold out0_A_12
  rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  rw [View.canon_cons_unit_zero hz4]
  sl_unfold_run_names
  simp only [↓View.readCov_cons_toLoadRect, View.readAt_eq_ld, harg3.read_unread, harg4.read_unread,
    harg5.read_unread, harg6.read_unread, harg7.read_unread, harg8.read_unread, harg9.read_unread,
    harg10.read_unread, harg11.read_unread, harg12.read_unread, harg13.read_unread, harg15.read_unread,
    View.ld_unit_zero (S := S1x128x1) hz3, View.ld_unit_zero (S := S1x1x1) hz3]
  rfl

set_option maxHeartbeats 4000000 in
/-- A step that carries the state leaves the state after sixteen more chunks. -/
theorem outB12 (hc0 : ¬cond0_0 i) (xo : Vec F S1x1x256x256 .f32) :
    out0_B_12 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo
      = states x1 x2 x4 x5 x8 x9 xo 16 := by
  unfold out0_B_12
  rw [View.read_writes_eq_canon _ _ _ (cover0_B_12 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo)]
  unfold kernelRun0_B
  dsimp only
  rw [View.canon_cons_unit_zero hz4]
  sl_unfold_run_names
  simp only [↓View.readCov_cons_toLoadRect, View.readAt_eq_ld, harg3.read_unread, harg4.read_unread,
    harg5.read_unread, harg6.read_unread, harg7.read_unread, harg8.read_unread, harg9.read_unread,
    harg10.read_unread, harg11.read_unread, harg12.read_unread, harg13.read_unread, harg15.read_unread,
    View.ld_unit_zero (S := S1x128x1) hz3, View.ld_unit_zero (S := S1x1x1) hz3,
    View.ld_unit_zero (S := S1x128x128) hz3, View.ld_unit_zero (S := S1x256) hz2,
    View.ld_unit_zero (S := S1x1x256x256) hz4]
  rfl

set_option maxHeartbeats 4000000 in
/-- A step that resets the state leaves its sixteen chunks' output rows, from the zero state. -/
theorem outA11 (hc0 : cond0_0 i) :
    out0_A_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = View.canon (outPieces x0 x1 x2 x3 x4 x5 x6 x7 x8 x9 x10 zeroState) := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  refine congrArg View.canon ?_
  sl_unfold_run_names
  simp only [↓View.readCov_cons_toLoadRect, View.readAt_eq_ld, harg3.read_unread, harg4.read_unread,
    harg5.read_unread, harg6.read_unread, harg7.read_unread, harg8.read_unread, harg9.read_unread,
    harg10.read_unread, harg11.read_unread, harg12.read_unread, harg13.read_unread, harg15.read_unread,
    View.ld_unit_zero (S := S1x128x1) hz3, View.ld_unit_zero (S := S1x1x1) hz3,
    View.ld_unit_zero (S := S1x128x128) hz3, View.ld_unit_zero (S := S1x256) hz2,
    View.ld_unit_zero (S := S1x1x256x256) hz4]
  rfl

set_option maxHeartbeats 4000000 in
/-- A step that carries the state leaves its sixteen chunks' output rows, from the carried state. -/
theorem outB11 (hc0 : ¬cond0_0 i) (xo : Vec F S1x1x256x256 .f32) :
    out0_B_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo
      = View.canon (outPieces x0 x1 x2 x3 x4 x5 x6 x7 x8 x9 x10 xo) := by
  unfold out0_B_11
  rw [View.read_writes_eq_canon _ _ _ (cover0_B_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo)]
  unfold kernelRun0_B
  dsimp only
  refine congrArg View.canon ?_
  sl_unfold_run_names
  simp only [↓View.readCov_cons_toLoadRect, View.readAt_eq_ld, harg3.read_unread, harg4.read_unread,
    harg5.read_unread, harg6.read_unread, harg7.read_unread, harg8.read_unread, harg9.read_unread,
    harg10.read_unread, harg11.read_unread, harg12.read_unread, harg13.read_unread, harg15.read_unread,
    View.ld_unit_zero (S := S1x128x1) hz3, View.ld_unit_zero (S := S1x1x1) hz3,
    View.ld_unit_zero (S := S1x128x128) hz3, View.ld_unit_zero (S := S1x256) hz2,
    View.ld_unit_zero (S := S1x1x256x256) hz4]
  rfl

end

end Cert.KernelIdeal.Steps
-- ==== Proof.Spec.lean ====
module

public import Idealize.ShloMosaic.Lib.Pointwise

/-! The retention layer on the extended reals, element by element: what both programs compute. -/

@[expose] public section

noncomputable section

open Idealize.ShloMosaic

namespace Cert.Retention

/-- A counter as a float. -/
abbrev fl (n : ℕ) : EReal := (FloatOps.sitofp FTy.f32 (BitVec.ofNat 32 n) : Ideal FTy.f32)

/-- The logarithm of head `h`'s decay. -/
def logDecay (h : ℕ) : EReal :=
  Ideal.log1p (-Ideal.exp (Ideal.ofBits FTy.f32 1060205080#32 * (Ideal.ofBits FTy.f32 3231711232#32 - fl h)))

/-- The rotation angle of position `p` in coordinate pair `x`. -/
def angle (p x : ℕ) : EReal :=
  fl p * Ideal.pow (Ideal.ofBits FTy.f32 1176256512#32) (Ideal.div (-fl x) (Ideal.ofBits FTy.f32 1124073472#32))

/-- The rotation's cosine and sine. -/
def cosT (p x : ℕ) : EReal := Ideal.cos (angle p x)
def sinT (p x : ℕ) : EReal := Ideal.sin (angle p x)

/-- The decay between two rows of a chunk, zero above the diagonal. -/
def dmat (h i j : ℕ) : EReal :=
  if 0 ≤ fl i - fl j then Ideal.exp (logDecay h * max (fl i - fl j) 0) else 0

/-- The decay from a chunk's start to its row `i`. -/
def xi (h i : ℕ) : EReal := Ideal.exp (logDecay h * (fl i + 1))

/-- The decay from row `i` to its chunk's end. -/
def zeta (h i : ℕ) : EReal := Ideal.exp (logDecay h * (Ideal.ofBits FTy.f32 1123942400#32 - fl i))

/-- The decay over a whole chunk. -/
def chunkDecay (h : ℕ) : EReal := Ideal.exp (logDecay h * Ideal.ofBits FTy.f32 1124073472#32)

/-- One rotated row: the halves `x₁ cos - x₂ sin` and `x₁ sin + x₂ cos`. -/
def rope (x : Fin 256 → EReal) (cos sin : Fin 128 → EReal) (d : Fin 256) : EReal :=
  if h : d.val < 128 then x d * cos ⟨d.val, h⟩ - x ⟨128 + d.val, by omega⟩ * sin ⟨d.val, h⟩
  else x ⟨d.val - 128, by omega⟩ * sin ⟨d.val - 128, by omega⟩
    + x ⟨128 + (d.val - 128), by omega⟩ * cos ⟨d.val - 128, by omega⟩

/-- The state after a chunk, from the state before it. -/
def step (k v : Fin 128 → Fin 256 → EReal) (ze : Fin 128 → EReal) (g : EReal) (s : Fin 256 → Fin 256 → EReal)
    (d e : Fin 256) : EReal :=
  s d e * g + ∑ j, k j d * ze j * v j e

/-- A chunk's output: its own rows under the decay matrix, and the state read by the queries. -/
def mix (q k v : Fin 128 → Fin 256 → EReal) (dm : Fin 128 → Fin 128 → EReal) (x : Fin 128 → EReal)
    (s : Fin 256 → Fin 256 → EReal) (i : Fin 128) (e : Fin 256) : EReal :=
  ∑ j, (∑ d, q i d * k j d) * dm i j * v j e + (∑ d, q i d * s d e) * x i

/-- A head's row minus its mean. -/
def centre (o : Fin 256 → EReal) (e : Fin 256) : EReal :=
  o e - Ideal.div (∑ x, o x) (Ideal.ofBits FTy.f32 1132462080#32)

/-- A centred head row divided by its root mean square, scaled and gated. -/
def gated (y : Fin 256 → EReal) (gn rg : EReal) (e : Fin 256) : EReal :=
  y e * Ideal.rsqrt (Ideal.div (∑ x, y x * y x) (Ideal.ofBits FTy.f32 1132462080#32) + Ideal.ofBits FTy.f32 897988541#32)
    * gn * (rg * Ideal.div 1 (1 + Ideal.exp (0 - rg)))

/-- Equal operands give equal values. -/
theorem rope_congr {x x' : Fin 256 → EReal} {c c' s s' : Fin 128 → EReal} (hx : ∀ d, x d = x' d)
    (hc : ∀ d, c d = c' d) (hs : ∀ d, s d = s' d) (d : Fin 256) : rope x c s d = rope x' c' s' d := by
  rw [funext hx, funext hc, funext hs]
theorem step_congr {k k' v v' : Fin 128 → Fin 256 → EReal} {ze ze' : Fin 128 → EReal} {g g' : EReal}
    {s s' : Fin 256 → Fin 256 → EReal} (hk : ∀ j d, k j d = k' j d) (hv : ∀ j e, v j e = v' j e)
    (hz : ∀ j, ze j = ze' j) (hg : g = g') (hs : ∀ d e, s d e = s' d e) (d e : Fin 256) :
    step k v ze g s d e = step k' v' ze' g' s' d e := by
  rw [funext fun j => funext (hk j), funext fun j => funext (hv j), funext hz, hg, funext fun j => funext (hs j)]
theorem mix_congr {q q' k k' v v' : Fin 128 → Fin 256 → EReal} {dm dm' : Fin 128 → Fin 128 → EReal}
    {x x' : Fin 128 → EReal} {s s' : Fin 256 → Fin 256 → EReal} (hq : ∀ j d, q j d = q' j d)
    (hk : ∀ j d, k j d = k' j d) (hv : ∀ j e, v j e = v' j e) (hd : ∀ i j, dm i j = dm' i j)
    (hx : ∀ i, x i = x' i) (hs : ∀ d e, s d e = s' d e) (i : Fin 128) (e : Fin 256) :
    mix q k v dm x s i e = mix q' k' v' dm' x' s' i e := by
  rw [funext fun j => funext (hq j), funext fun j => funext (hk j), funext fun j => funext (hv j),
    funext fun j => funext (hd j), funext hx, funext fun j => funext (hs j)]

section
variable (z : Fin 8192 → Fin 10240 → EReal)

/-- Row `i` of chunk `n` of sequence `b` (chunks counted modulo 32). -/
def row (b : Fin 2) (n : ℕ) (i : Fin 128) : Fin 8192 := ⟨b.val * 4096 + ((n % 32) * 128 + i.val), by omega⟩

/-- Column `d` of head `h` in column group `g` of 2048. -/
def col (g : Fin 4) (h : Fin 8) (d : Fin 256) : Fin 10240 := ⟨g.val * 2048 + (h.val * 256 + d.val), by omega⟩

/-- The rotated queries, the rotated and scaled keys, the values and the gates of a chunk of a head. -/
def qs (b : Fin 2) (h : Fin 8) (n : ℕ) (i : Fin 128) (d : Fin 256) : EReal :=
  rope (fun d => z (row b n i) (col 0 h d)) (fun x => cosT ((n % 32) * 128 + i.val) x.val)
    (fun x => sinT ((n % 32) * 128 + i.val) x.val) d
def ks (b : Fin 2) (h : Fin 8) (n : ℕ) (i : Fin 128) (d : Fin 256) : EReal :=
  rope (fun d => z (row b n i) (col 1 h d)) (fun x => cosT ((n % 32) * 128 + i.val) x.val)
    (fun x => sinT ((n % 32) * 128 + i.val) x.val) d * Ideal.ofBits FTy.f32 1031798784#32
def vs (b : Fin 2) (h : Fin 8) (n : ℕ) (i : Fin 128) (e : Fin 256) : EReal := z (row b n i) (col 2 h e)
def gs (b : Fin 2) (h : Fin 8) (n : ℕ) (i : Fin 128) (e : Fin 256) : EReal := z (row b n i) (col 3 h e)

/-- The state of a head before chunk `n`. -/
def state (b : Fin 2) (h : Fin 8) : ℕ → Fin 256 → Fin 256 → EReal
  | 0 => fun _ _ => 0
  | n + 1 => step (ks z b h n) (vs z b h n) (fun i => zeta h.val i.val) (chunkDecay h.val) (state b h n)

/-- The retention's output row, before the head norm. -/
def mixed (b : Fin 2) (h : Fin 8) (n : ℕ) : Fin 128 → Fin 256 → EReal :=
  mix (qs z b h n) (ks z b h n) (vs z b h n) (fun i j => dmat h.val i.val j.val) (fun i => xi h.val i.val)
    (state z b h n)

/-- The layer's output at a row and column. -/
def output (gn : Fin 2048 → EReal) (b : Fin 2) (h : Fin 8) (n : ℕ) (i : Fin 128) (e : Fin 256) : EReal :=
  gated (centre (mixed z b h n i)) (gn ⟨h.val * 256 + e.val, by omega⟩) (gs z b h n i e) e

end

end Cert.Retention
-- ==== Proof.ChunkIdeal.lean ====
module

public import proofs.«01_k».proof.Proof.Chunk
public import proofs.«01_k».proof.Proof.Spec

/-! One chunk of the kernel read at an index, over the extended reals. -/

@[expose] public section

set_option maxRecDepth 16384

noncomputable section

open Idealize.ShloMosaic

namespace Cert.KernelIdeal.Steps

open Cert.KernelIdeal Cert.KernelIdeal.Gen
open Cert.Retention

/-- The rotated query rows. -/
theorem rope_q (cos sin : Vec Ideal S128x128 .f32) (q : Vec Ideal S128x256 .f32) (i : Fin 128) (d : Fin 256) :
    k0_pay6 cos sin q (ix2 i d) = rope (fun d => q (ix2 i d)) (fun x => cos (ix2 i x)) (fun x => sin (ix2 i x)) d := by
  pointwise [k0_pay6, k0_pay3, k0_pay4, rope]

/-- The rotated and scaled key rows. -/
theorem rope_k (cos sin : Vec Ideal S128x128 .f32) (k : Vec Ideal S128x256 .f32) (i : Fin 128) (d : Fin 256) :
    k0_pay5 cos sin k (ix2 i d)
      = rope (fun d => k (ix2 i d)) (fun x => cos (ix2 i x)) (fun x => sin (ix2 i x)) d
        * Ideal.ofBits FTy.f32 1031798784#32 := by
  pointwise [k0_pay5, k0_pay3, k0_pay4, rope]

/-- The state after a chunk. -/
theorem stepState_apply (k v : Vec Ideal S128x256 .f32) (cos sin : Vec Ideal S128x128 .f32)
    (ze : Vec Ideal S1x128x1 .f32) (gc : Vec Ideal S1x1x1 .f32) (s : Vec Ideal S1x1x256x256 .f32) (d e : Fin 256) :
    stepState k v cos sin ze gc s (ix4 0 0 d e)
      = step (fun j d => k0_pay5 cos sin k (ix2 j d)) (fun j e => v (ix2 j e)) (fun j => ze (ix3 0 j 0))
          (gc (ix3 0 0 0)) (fun d e => s (ix4 0 0 d e)) d e := by
  pointwise [stepState, k0_pay10, k0_pay7, k0_pay8, step]

/-- A chunk's centred output rows. -/
theorem mix_apply (q k v : Vec Ideal S128x256 .f32) (cos sin : Vec Ideal S128x128 .f32)
    (dm : Vec Ideal S1x128x128 .f32) (x : Vec Ideal S1x128x1 .f32) (s : Vec Ideal S1x1x256x256 .f32)
    (i : Fin 128) (e : Fin 256) :
    k0_pay12 (k0_pay6 cos sin q) (k0_pay7 v) (k0_pay8 s) (k0_pay9 cos sin q k) dm x (ix2 i e)
      = centre (mix (fun j d => k0_pay6 cos sin q (ix2 j d)) (fun j d => k0_pay5 cos sin k (ix2 j d))
          (fun j e => v (ix2 j e)) (fun i j => dm (ix3 0 i j)) (fun j => x (ix3 0 j 0))
          (fun d e => s (ix4 0 0 d e)) i) e := by
  pointwise [k0_pay12, k0_pay7, k0_pay8, k0_pay9, centre, mix]

/-- A chunk's normalized and gated output rows. -/
theorem gated_apply (o : FVec Ideal S128x256 .f32) (rg : Vec Ideal S128x256 .f32) (gn : Vec Ideal S1x256 .f32)
    (i : Fin 128) (e : Fin 256) :
    k0_pay13 (k0_pay11 gn) rg o (ix2 i e)
      = gated (fun e => o (ix2 i e)) (gn (ix2 0 e)) (rg (ix2 i e)) e := by
  pointwise [k0_pay13, k0_pay11, gated]

/-- A chunk's output, from the state before it. -/
theorem stepOut_apply (q k v rg : Vec Ideal S128x256 .f32) (cos sin : Vec Ideal S128x128 .f32)
    (dm : Vec Ideal S1x128x128 .f32) (x : Vec Ideal S1x128x1 .f32) (gn : Vec Ideal S1x256 .f32)
    (s : Vec Ideal S1x1x256x256 .f32) (i : Fin 128) (e : Fin 256) :
    stepOut q k v rg cos sin dm x gn s (ix2 i e)
      = gated (centre (mix (fun j d => k0_pay6 cos sin q (ix2 j d)) (fun j d => k0_pay5 cos sin k (ix2 j d))
          (fun j e => v (ix2 j e)) (fun i j => dm (ix3 0 i j)) (fun j => x (ix3 0 j 0))
          (fun d e => s (ix4 0 0 d e)) i)) (gn (ix2 0 e)) (rg (ix2 i e)) e := by
  unfold stepOut
  rw [gated_apply]
  exact congrArg (fun y => gated y (gn (ix2 0 e)) (rg (ix2 i e)) e) (funext fun e => mix_apply ..)

end Cert.KernelIdeal.Steps
-- ==== Proof.KernelBlocks.lean ====
module

public import proofs.«01_k».proof.Proof.ChunkIdeal
public import proofs.«01_k».proof.Proof.Gen.KernelIdeal.Value
public import Idealize.ShloMosaic.Lib.Pipeline.ValueKit
public import Idealize.ShloMosaic.Lib.StableHlo.ReadAt

/-! The blocks each step of the kernel is given, read at an index: rows of the projection, and the decay and rotation
tables computed before the call. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Steps

open Cert.KernelIdeal Cert.KernelIdeal.Gen
open Cert.Retention

variable (m : (ℓ : Loc nD τ sig) → Buf (Elt Ideal) ℓ) (c : Dev nD)

/-- The projection's entry at a row and column. -/
def zin (i : Fin 8192) (j : Fin 10240) : EReal := m ((c : Thread nD τ).loc main_arg0) (ix2 i j)

/-- The norm's weight. -/
def gin (i : Fin 2048) : EReal := m ((c : Thread nD τ).loc main_arg1) (ix1 i)

/-- The block indices of every window at every step. -/
theorem idx : ∀ t : Fin cfg0.N,
    win0_0.index t = ![t.val / 16 * 2 + t.val % 2, t.val / 2 % 8]
    ∧ win0_1.index t = ![t.val / 16 * 2 + t.val % 2, 8 + t.val / 2 % 8]
    ∧ win0_2.index t = ![t.val / 16 * 2 + t.val % 2, 16 + t.val / 2 % 8]
    ∧ win0_3.index t = ![t.val / 16 * 2 + t.val % 2, 24 + t.val / 2 % 8]
    ∧ win0_4.index t = ![t.val % 2, 0]
    ∧ win0_5.index t = ![t.val % 2, 0]
    ∧ win0_6.index t = ![t.val / 2 % 8, 0, 0]
    ∧ win0_7.index t = ![t.val / 2 % 8, 0, 0]
    ∧ win0_8.index t = ![t.val / 2 % 8, 0, 0]
    ∧ win0_9.index t = ![t.val / 2 % 8, 0, 0]
    ∧ win0_10.index t = ![0, t.val / 2 % 8]
    ∧ win0_11.index t = ![t.val / 16 * 2 + t.val % 2, t.val / 2 % 8]
    ∧ win0_12.index t = ![t.val / 16, t.val / 2 % 8, 0, 0] :=
  (by decide +kernel : ∀ t : Fin grid0.N,
    win0_0.index t = ![t.val / 16 * 2 + t.val % 2, t.val / 2 % 8]
    ∧ win0_1.index t = ![t.val / 16 * 2 + t.val % 2, 8 + t.val / 2 % 8]
    ∧ win0_2.index t = ![t.val / 16 * 2 + t.val % 2, 16 + t.val / 2 % 8]
    ∧ win0_3.index t = ![t.val / 16 * 2 + t.val % 2, 24 + t.val / 2 % 8]
    ∧ win0_4.index t = ![t.val % 2, 0]
    ∧ win0_5.index t = ![t.val % 2, 0]
    ∧ win0_6.index t = ![t.val / 2 % 8, 0, 0]
    ∧ win0_7.index t = ![t.val / 2 % 8, 0, 0]
    ∧ win0_8.index t = ![t.val / 2 % 8, 0, 0]
    ∧ win0_9.index t = ![t.val / 2 % 8, 0, 0]
    ∧ win0_10.index t = ![0, t.val / 2 % 8]
    ∧ win0_11.index t = ![t.val / 16 * 2 + t.val % 2, t.val / 2 % 8]
    ∧ win0_12.index t = ![t.val / 16, t.val / 2 % 8, 0, 0])

/-- There are 32 steps. -/
theorem lt32 (t : Fin cfg0.N) : t.val < 32 := lt_of_lt_of_eq t.isLt N_0

/-- The sequence and the head of a step. -/
def bAt (t : Fin cfg0.N) : Fin 2 := ⟨t.val / 16, by have := lt32 t; omega⟩
def hAt (t : Fin cfg0.N) : Fin 8 := ⟨t.val / 2 % 8, by omega⟩

/-- The rotation tables. -/
theorem cos_entry (p : Fin 4096) (x : Fin 128) : V m c main_v60 (ix2 p x) = cosT p.val x.val := by
  unfold V
  after_reads_at
  rfl
theorem sin_entry (p : Fin 4096) (x : Fin 128) : V m c main_v61 (ix2 p x) = sinT p.val x.val := by
  unfold V
  after_reads_at
  rfl

/-- The decay tables. -/
theorem dmat_entry (h : Fin 8) (i j : Fin 128) : V m c main_v24 (ix3 h i j) = dmat h.val i.val j.val := by
  unfold V
  after_reads_at
  simp only [id_eq]
  pointwise
  rfl
theorem xi_entry (h : Fin 8) (i : Fin 128) : V m c main_v33 (ix3 h i 0) = xi h.val i.val := by
  unfold V
  after_reads_at
  rfl
theorem zeta_entry (h : Fin 8) (i : Fin 128) : V m c main_v42 (ix3 h i 0) = zeta h.val i.val := by
  unfold V
  after_reads_at
  rfl
theorem gc_entry (h : Fin 8) : V m c main_v46 (ix3 h 0 0) = chunkDecay h.val := by
  unfold V
  after_reads_at
  rfl
theorem gn_entry (x : Fin 2048) : V m c main_v62 (ix2 0 x) = gin m c x := by
  unfold V
  after_reads_at
  rfl

/-- A chunk's rows of a block, as rows of the block. -/
theorem rows256_apply (x : Vec Ideal S2048x256 .f32) (u : ℕ) (hu : u < 16) (i : Fin 128) (d : Fin 256) :
    rows256 x u (ix2 i d) = x (ix2 ⟨128 * u + i.val, by omega⟩ d) := by
  refine congrArg x (funext fun a => Fin.ext ?_)
  fin_cases a
  · show 128 * (u % 16) + 1 * i.val = 128 * u + i.val
    omega
  · show 0 + 1 * d.val = d.val
    omega
theorem rows128_apply (x : Vec Ideal S2048x128 .f32) (u : ℕ) (hu : u < 16) (i : Fin 128) (d : Fin 128) :
    rows128 x u (ix2 i d) = x (ix2 ⟨128 * u + i.val, by omega⟩ d) := by
  refine congrArg x (funext fun a => Fin.ext ?_)
  fin_cases a
  · show 128 * (u % 16) + 1 * i.val = 128 * u + i.val
    omega
  · show 0 + 1 * d.val = d.val
    omega

section
variable (t : Fin cfg0.N)

section
variable (u : ℕ) (hu : u < 16) (i : Fin 128)
include hu

/-- Chunk `u`'s rows of the four blocks of the projection, and of the rotation tables. -/
theorem q_block (d : Fin 256) : rows256 (iblk m c 0 t) u (ix2 i d) = zin m c (row (bAt t) (t.val % 2 * 16 + u) i) (col 0 (hAt t) d) := by
  rw [rows256_apply _ u hu]
  have := lt32 t
  unfold zin row col bAt hAt
  blk_ext [iblk, V, idx t]
theorem k_block (d : Fin 256) : rows256 (iblk m c 1 t) u (ix2 i d) = zin m c (row (bAt t) (t.val % 2 * 16 + u) i) (col 1 (hAt t) d) := by
  rw [rows256_apply _ u hu]
  have := lt32 t
  unfold zin row col bAt hAt
  blk_ext [iblk, V, idx t]
theorem v_block (d : Fin 256) : rows256 (iblk m c 2 t) u (ix2 i d) = zin m c (row (bAt t) (t.val % 2 * 16 + u) i) (col 2 (hAt t) d) := by
  rw [rows256_apply _ u hu]
  have := lt32 t
  unfold zin row col bAt hAt
  blk_ext [iblk, V, idx t]
theorem g_block (d : Fin 256) : rows256 (iblk m c 3 t) u (ix2 i d) = zin m c (row (bAt t) (t.val % 2 * 16 + u) i) (col 3 (hAt t) d) := by
  rw [rows256_apply _ u hu]
  have := lt32 t
  unfold zin row col bAt hAt
  blk_ext [iblk, V, idx t]
theorem cos_block (x : Fin 128) : rows128 (iblk m c 4 t) u (ix2 i x) = cosT ((t.val % 2 * 16 + u) % 32 * 128 + i.val) x.val := by
  rw [rows128_apply _ u hu]
  have h := cos_entry m c ⟨(t.val % 2 * 16 + u) % 32 * 128 + i.val, by omega⟩ x
  refine Eq.trans ?_ h
  blk_ext [iblk, idx t]
theorem sin_block (x : Fin 128) : rows128 (iblk m c 5 t) u (ix2 i x) = sinT ((t.val % 2 * 16 + u) % 32 * 128 + i.val) x.val := by
  rw [rows128_apply _ u hu]
  have h := sin_entry m c ⟨(t.val % 2 * 16 + u) % 32 * 128 + i.val, by omega⟩ x
  refine Eq.trans ?_ h
  blk_ext [iblk, idx t]
end

/-- The step's head's decay tables and norm weight. -/
theorem dmat_block (i j : Fin 128) : iblk m c 6 t (ix3 0 i j) = dmat (hAt t).val i.val j.val := by
  refine Eq.trans ?_ (dmat_entry m c (hAt t) i j)
  unfold hAt
  blk_ext [iblk, idx t]
theorem xi_block (i : Fin 128) : iblk m c 7 t (ix3 0 i 0) = xi (hAt t).val i.val := by
  refine Eq.trans ?_ (xi_entry m c (hAt t) i)
  unfold hAt
  blk_ext [iblk, idx t]
theorem zeta_block (i : Fin 128) : iblk m c 8 t (ix3 0 i 0) = zeta (hAt t).val i.val := by
  refine Eq.trans ?_ (zeta_entry m c (hAt t) i)
  unfold hAt
  blk_ext [iblk, idx t]
theorem gc_block : iblk m c 9 t (ix3 0 0 0) = chunkDecay (hAt t).val := by
  refine Eq.trans ?_ (gc_entry m c (hAt t))
  unfold hAt
  blk_ext [iblk, idx t]
theorem gn_block (e : Fin 256) : iblk m c 10 t (ix2 0 e) = gin m c ⟨(hAt t).val * 256 + e.val, by omega⟩ := by
  refine Eq.trans ?_ (gn_entry m c ⟨(hAt t).val * 256 + e.val, by omega⟩)
  unfold hAt
  blk_ext [iblk, idx t]
end

end Cert.KernelIdeal.Steps
-- ==== Proof.KernelValue.lean ====
module

public import proofs.«01_k».proof.Proof.KernelBlocks

/-! The kernel's two results over the extended reals: every step's chunks in terms of the layer's recurrence, and the
arrays the steps leave. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Steps

open Cert.KernelIdeal Cert.KernelIdeal.Gen
open Cert.Retention

variable (m : (ℓ : Loc nD τ sig) → Buf (Elt Ideal) ℓ) (c : Dev nD)

section
variable (t : Fin cfg0.N)

section
variable (u : ℕ) (hu : u < 16)
include hu

/-- Chunk `u`'s queries and keys. -/
theorem q_chunk (i : Fin 128) (d : Fin 256) :
    k0_pay6 (rows128 (iblk m c 4 t) u) (rows128 (iblk m c 5 t) u) (rows256 (iblk m c 0 t) u) (ix2 i d)
      = qs (zin m c) (bAt t) (hAt t) (t.val % 2 * 16 + u) i d := by
  rw [rope_q]
  exact rope_congr (q_block m c t u hu i) (cos_block m c t u hu i) (sin_block m c t u hu i) d
theorem k_chunk (i : Fin 128) (d : Fin 256) :
    k0_pay5 (rows128 (iblk m c 4 t) u) (rows128 (iblk m c 5 t) u) (rows256 (iblk m c 1 t) u) (ix2 i d)
      = ks (zin m c) (bAt t) (hAt t) (t.val % 2 * 16 + u) i d := by
  rw [rope_k]
  exact congrArg (· * Ideal.ofBits FTy.f32 1031798784#32)
    (rope_congr (k_block m c t u hu i) (cos_block m c t u hu i) (sin_block m c t u hu i) d)
end

variable (s : Vec Ideal S1x1x256x256 .f32)
  (hs : ∀ d e, s (ix4 0 0 d e) = state (zin m c) (bAt t) (hAt t) (t.val % 2 * 16) d e)
include hs

/-- The states of a step that begins with the recurrence's state are the recurrence's states. -/
theorem states_eq (u : ℕ) (hu : u ≤ 16) (d e : Fin 256) :
    states (iblk m c 1 t) (iblk m c 2 t) (iblk m c 4 t) (iblk m c 5 t) (iblk m c 8 t) (iblk m c 9 t) s u (ix4 0 0 d e)
      = state (zin m c) (bAt t) (hAt t) (t.val % 2 * 16 + u) d e := by
  induction u generalizing d e with
  | zero => exact hs d e
  | succ u ih =>
    have hu' : u < 16 := hu
    rw [states, stepState_apply, ← Nat.add_assoc, state]
    exact step_congr (k_chunk m c t u hu') (v_block m c t u hu') (zeta_block m c t) (gc_block m c t)
      (fun d e => ih (by omega) d e) d e

/-- The output rows of a step that begins with the recurrence's state are the layer's. -/
theorem outs_eq (u : ℕ) (hu : u < 16) (i : Fin 128) (e : Fin 256) :
    outs (iblk m c 0 t) (iblk m c 1 t) (iblk m c 2 t) (iblk m c 3 t) (iblk m c 4 t) (iblk m c 5 t) (iblk m c 6 t)
        (iblk m c 7 t) (iblk m c 8 t) (iblk m c 9 t) (iblk m c 10 t) s u (ix2 i e)
      = output (zin m c) (gin m c) (bAt t) (hAt t) (t.val % 2 * 16 + u) i e := by
  rw [outs, stepOut_apply, output, gn_block, g_block m c t u hu, gs]
  refine congrArg (fun y => gated (centre y) _ _ e) (funext fun e => ?_)
  exact mix_congr (q_chunk m c t u hu) (k_chunk m c t u hu) (v_block m c t u hu) (dmat_block m c t)
    (xi_block m c t) (states_eq m c t s hs u (by omega)) i e

/-- The sixteen stores of output rows leave the layer's output at every row of the block. -/
theorem pieces_eq (y : Fin 2048) (e : Fin 256) :
    View.canon (outPieces (iblk m c 0 t) (iblk m c 1 t) (iblk m c 2 t) (iblk m c 3 t) (iblk m c 4 t) (iblk m c 5 t)
        (iblk m c 6 t) (iblk m c 7 t) (iblk m c 8 t) (iblk m c 9 t) (iblk m c 10 t) s) (ix2 y e)
      = output (zin m c) (gin m c) (bAt t) (hAt t) (t.val % 2 * 16 + y.val / 128)
          ⟨y.val % 128, Nat.mod_lt _ (by decide)⟩ e := by
  refine View.canon_apply_of_pieces (Val := Elt Ideal) (e := .bf16) (S := S2048x256)
    (fun y : S2048x256.Idx => output (zin m c) (gin m c) (bAt t) (hAt t) (t.val % 2 * 16 + (y 0).val / 128)
          ⟨(y 0).val % 128, Nat.mod_lt _ (by decide)⟩ (y 1)) _ (fun p hp x => ?_) (ix2 y e) ?_
  · obtain ⟨u, hu, rfl⟩ := List.mem_map.mp hp
    have hu' : u < 16 := by
      simp only [List.mem_cons, List.not_mem_nil, or_false] at hu
      omega
    obtain ⟨i, d, rfl⟩ : ∃ (i : Fin 128) (d : Fin 256), x = ix2 i d := ⟨x 0, x 1, eq_ix2 x⟩
    refine (outs_eq m c t s hs u hu' i d).trans ?_
    have h0 : ((rect256 u).emb (ix2 i d) 0).val = 128 * u + i.val := by
      show 128 * (u % 16) + 1 * i.val = _
      omega
    have h1 : (rect256 u).emb (ix2 i d) 1 = d := Fin.ext (by show 0 + 1 * d.val = _; omega)
    dsimp only
    rw [h1]
    have e0 : ((rect256 u).emb (ix2 i d) 0).val / 128 = u := by omega
    have e1 : (⟨((rect256 u).emb (ix2 i d) 0).val % 128, Nat.mod_lt _ (by decide)⟩ : Fin 128) = i :=
      Fin.ext (by show _ % 128 = i.val; omega)
    rw [e0, e1]
  · have hy := y.isLt
    refine ⟨_, List.mem_map.mpr ⟨y.val / 128, ?_, rfl⟩, ?_⟩
    · simp only [List.mem_cons, List.not_mem_nil, or_false]
      omega
    · rw [Rect.mem_set_unit]
      intro a
      fin_cases a
      · show 128 * (y.val / 128 % 16) ≤ y.val ∧ y.val < 128 * (y.val / 128 % 16) + 128
        omega
      · show 0 ≤ e.val ∧ e.val < 0 + 256
        omega
end

/-- The zero block. -/
theorem zero_apply (d e : Fin 256) : zeroState (F := Ideal) (ix4 0 0 d e) = (0 : EReal) := by
  pointwise [zeroState, k0_pay2]

/-- An even step begins with the zero state. -/
theorem zero_eq (t : Fin cfg0.N) (h0 : t.val % 2 = 0) (d e : Fin 256) :
    zeroState (F := Ideal) (ix4 0 0 d e) = state (zin m c) (bAt t) (hAt t) (t.val % 2 * 16) d e := by
  rw [zero_apply, h0]
  rfl

/-- An even step leaves the state after the first sixteen chunks. -/
theorem state_even (t : Fin cfg0.N) (h0 : t.val % 2 = 0) (d e : Fin 256) :
    (outsAt0 m c t.val t.isLt).2 (ix4 0 0 d e) = state (zin m c) (bAt t) (hAt t) (t.val % 2 * 16 + 16) d e := by
  rw [outsAt0_A m c t h0]
  dsimp only
  rw [outA12]
  exact states_eq m c t _ (zero_eq m c t h0) 16 (Nat.le_refl _) d e

/-- An odd step begins with the state the step before it left. -/
theorem state_before (t : Fin cfg0.N) (h0 : ¬t.val % 2 = 0) (d e : Fin 256) :
    (outsAt0 m c (t.val - 1) (Nat.lt_of_le_of_lt (Nat.sub_le _ _) t.isLt)).2 (ix4 0 0 d e)
      = state (zin m c) (bAt t) (hAt t) (t.val % 2 * 16) d e := by
  have hlt : t.val - 1 < cfg0.N := Nat.lt_of_le_of_lt (Nat.sub_le _ _) t.isLt
  refine (state_even m c ⟨t.val - 1, hlt⟩ (by show (t.val - 1) % 2 = 0; omega) d e).trans ?_
  have eb : bAt (⟨t.val - 1, hlt⟩ : Fin cfg0.N) = bAt t :=
    Fin.ext (by show (t.val - 1) / 16 = t.val / 16; omega)
  have eh : hAt (⟨t.val - 1, hlt⟩ : Fin cfg0.N) = hAt t :=
    Fin.ext (by show (t.val - 1) / 2 % 8 = t.val / 2 % 8; omega)
  have en : (t.val - 1) % 2 * 16 + 16 = t.val % 2 * 16 := by omega
  rw [eb, eh]
  show state _ _ _ ((t.val - 1) % 2 * 16 + 16) d e = _
  rw [en]

/-- An odd step leaves the state after all thirty-two chunks. -/
theorem state_odd (t : Fin cfg0.N) (h0 : ¬t.val % 2 = 0) (d e : Fin 256) :
    (outsAt0 m c t.val t.isLt).2 (ix4 0 0 d e) = state (zin m c) (bAt t) (hAt t) 32 d e := by
  rw [outsAt0_B m c t h0]
  dsimp only
  rw [outB12]
  refine (states_eq m c t _ (state_before m c t h0) 16 (Nat.le_refl _) d e).trans ?_
  rw [show t.val % 2 * 16 + 16 = 32 by omega]

/-- Every step leaves the layer's output in its block of rows. -/
theorem out_after (t : Fin cfg0.N) (y : Fin 2048) (e : Fin 256) :
    (outsAt0 m c t.val t.isLt).1 (ix2 y e)
      = output (zin m c) (gin m c) (bAt t) (hAt t) (t.val % 2 * 16 + y.val / 128)
          ⟨y.val % 128, Nat.mod_lt _ (by decide)⟩ e := by
  by_cases h0 : t.val % 2 = 0
  · rw [outsAt0_A m c t h0]
    dsimp only
    rw [outA11]
    exact pieces_eq m c t _ (zero_eq m c t h0) y e
  · rw [outsAt0_B m c t h0]
    dsimp only
    rw [outB11]
    exact pieces_eq m c t _ (state_before m c t h0) y e

/-- The layer's output as an array. -/
def outArr (z : Fin 8192 → Fin 10240 → EReal) (gn : Fin 2048 → EReal) : S8192x2048.Idx → EReal := fun y =>
  output z gn ⟨(y 0).val / 4096, by have : (y 0).val < 8192 := (y 0).isLt; omega⟩
    ⟨(y 1).val / 256, by have : (y 1).val < 2048 := (y 1).isLt; omega⟩ ((y 0).val % 4096 / 128)
    ⟨(y 0).val % 128, Nat.mod_lt _ (by decide)⟩ ⟨(y 1).val % 256, Nat.mod_lt _ (by decide)⟩

/-- The final states as an array. -/
def stateArr (z : Fin 8192 → Fin 10240 → EReal) : S2x8x256x256.Idx → EReal := fun y =>
  state z (y 0) (y 1) 32 (y 2) (y 3)

/-- The layer's output at equal coordinates. -/
theorem outArr_apply (z : Fin 8192 → Fin 10240 → EReal) (gn : Fin 2048 → EReal) (b : Fin 2) (h : Fin 8) (n : ℕ)
    (i : Fin 128) (e : Fin 256) (y : S8192x2048.Idx) (hn : n < 32)
    (h0 : (y 0).val = b.val * 4096 + (n * 128 + i.val)) (h1 : (y 1).val = h.val * 256 + e.val) :
    outArr z gn y = output z gn b h n i e := by
  have hb := b.isLt
  have hh := h.isLt
  have hi := i.isLt
  have he := e.isLt
  unfold outArr
  congr 1
  · exact Fin.ext (by show (y 0).val / 4096 = _; omega)
  · exact Fin.ext (by show (y 1).val / 256 = _; omega)
  · omega
  · exact Fin.ext (by show (y 0).val % 128 = _; omega)
  · exact Fin.ext (by show (y 1).val % 256 = _; omega)

/-- The first result. -/
theorem final_out : (dats m 0 c).arrAt 11 cfg0.N = outArr (zin m c) (gin m c) := by
  refine (dats m 0 c).arrAt_eq_of_covers 11 _ (by decide +kernel) fun t hf y => ?_
  obtain ⟨p, e, rfl⟩ : ∃ (p : Fin 2048) (e : Fin 256), y = ix2 p e := ⟨y 0, y 1, eq_ix2 y⟩
  have := lt32 t
  have h0 : ((((cfg0.win 11).blk t).view.emb (ix2 p e)) 0 : ℕ) = (t.val / 16 * 2 + t.val % 2) * 2048 + p.val := by
    blk_simp [idx t]
  have h1 : ((((cfg0.win 11).blk t).view.emb (ix2 p e)) 1 : ℕ) = (t.val / 2 % 8) * 256 + e.val := by
    blk_simp [idx t]
  refine Eq.trans ?_ (outArr_apply (zin m c) (gin m c) (bAt t) (hAt t) (t.val % 2 * 16 + p.val / 128)
    ⟨p.val % 128, Nat.mod_lt _ (by decide)⟩ e _ (by have := p.isLt; omega) ?_ ?_).symm
  · blk_simp
    rw [after0_11]
    exact out_after m c t p e
  · refine h0.trans ?_
    show _ = t.val / 16 * 4096 + ((t.val % 2 * 16 + p.val / 128) * 128 + p.val % 128)
    omega
  · exact h1

/-- The second result. -/
theorem final_state : (dats m 0 c).arrAt 12 cfg0.N = stateArr (zin m c) := by
  refine (dats m 0 c).arrAt_eq_of_covers 12 _ (by decide +kernel) fun t hf y => ?_
  obtain ⟨z0, z1, d, e, rfl⟩ : ∃ (z0 z1 : Fin 1) (d e : Fin 256), y = ix4 z0 z1 d e := ⟨y 0, y 1, y 2, y 3, eq_ix4 y⟩
  obtain rfl : z0 = 0 := Subsingleton.elim _ _
  obtain rfl : z1 = 0 := Subsingleton.elim _ _
  have ht := (flush0_12 t).mp hf
  refine Eq.trans ?_ (Eq.trans (state_odd m c t (by omega) d e) ?_)
  · blk_simp
    rw [after0_12]
  unfold stateArr
  have h0 : (((cfg0.win 12).blk t).view.emb (ix4 0 0 d e)) 0 = bAt t := Fin.ext (by
    refine Eq.trans (b := t.val / 16 * 1 + 0) ?_ (by show _ = t.val / 16; omega)
    blk_simp [idx t]
    rfl)
  have h1 : (((cfg0.win 12).blk t).view.emb (ix4 0 0 d e)) 1 = hAt t := Fin.ext (by
    refine Eq.trans (b := t.val / 2 % 8 * 1 + 0) ?_ (by show _ = t.val / 2 % 8; omega)
    blk_simp [idx t]
    rfl)
  have h2 : (((cfg0.win 12).blk t).view.emb (ix4 0 0 d e)) 2 = d := Fin.ext (by
    refine Eq.trans (b := 0 * 256 + d.val) ?_ (by omega)
    blk_simp [idx t])
  have h3 : (((cfg0.win 12).blk t).view.emb (ix4 0 0 d e)) 3 = e := Fin.ext (by
    refine Eq.trans (b := 0 * 256 + e.val) ?_ (by omega)
    blk_simp [idx t])
  rw [h0, h1, h2, h3]

/-- The kernel's run: the layer's output and final states, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v63_0) = outArr (zin m c) (gin m c)
      ∧ r.2.mem ((c : Thread nD τ).loc main_v63_1) = stateArr (zin m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_out m c), (h c).2.1.trans (final_state m c), (h c).2.2⟩)
    (Value.run_blocks m ρ)

end Cert.KernelIdeal.Steps
-- ==== Proof.RefLoop.lean ====
module

public import proofs.«01_k».proof.Proof.Spec
public import proofs.«01_k».proof.Proof.Gen.ReferenceIdeal.Run
public import Idealize.ShloMosaic.Lib.DynamicIndex

/-! The reference over the extended reals: one trip of its loop over the chunks, read at an index. -/

@[expose] public section

set_option maxRecDepth 16384

noncomputable section

open Idealize.ShloMosaic Idealize.ShloMosaic.TcCoe Idealize.SL.Sem Idealize.ShloMosaic.StableHlo Idealize.ShloMosaic.HostLoop

namespace Cert.ReferenceIdeal.Loop

open Cert.ReferenceIdeal Cert.ReferenceIdeal.Gen Cert.ReferenceIdeal.Value
open Cert.Retention

/-- The trip counter as an integer. -/
theorem counter_toInt : ∀ k : Fin 32, (Scf.iv 0#32 1#32 k.val).toInt = (k.val : ℤ) := by decide +kernel

/-- The start of a trip's chunk: its number on the first axis, zero on the others. -/
abbrev start (k : Fin 32) : Fin 5 → ℤ := fun a =>
  ((![fun _ => Scf.iv 0#32 1#32 k.val, constantI S_ 32 0#32, constantI S_ 32 0#32, constantI S_ 32 0#32,
    constantI S_ 32 0#32] : Fin 5 → (⟨S_, .i32⟩ : BufTy).Contents (Elt Ideal)) a (Shape.Idx.first h_S_)).toInt

/-- A trip's chunk begins inside the array, so its start is not moved. -/
theorem clamped (k : Fin 32) (a : Fin 5) :
    Host.clampedStart S32x2x128x8x256 S1x2x128x8x256 rfl (start k) a = (![k.val, 0, 0, 0, 0] : Fin 5 → ℕ) a := by
  have h : start k a = ((![k.val, 0, 0, 0, 0] : Fin 5 → ℕ) a : ℤ) := by
    fin_cases a
    · exact counter_toInt k
    all_goals rfl
  refine Host.clampedStart_of_le (s := S32x2x128x8x256) (t := S1x2x128x8x256) rfl (start k) a _ h ?_
  fin_cases a
  · show k.val + 1 ≤ 32; omega
  all_goals exact Nat.le_of_eq (Nat.zero_add _)

/-- A chunk cut from an array of chunks. -/
theorem slice_apply (x : S32x2x128x8x256.Idx → EReal) (k : Fin 32) (b : Fin 2) (i : Fin 128) (h : Fin 8) (d : Fin 256) :
    Host.dynamicSlice S1x2x128x8x256 x (start k) sliceFits_S32x2x128x8x256_S1x2x128x8x256 (ix5 0 b i h d)
      = x (ix5 k b i h d) := by
  rw [Host.dynamicSlice_apply]
  refine congrArg x (funext fun a => Fin.ext ?_)
  have hc := clamped k a
  fin_cases a
  · exact (congrArg (· + 0) hc)
  all_goals exact (congrArg (· + _) hc).trans (Nat.zero_add _)

/-- A chunk written into an array of chunks. -/
theorem updateSlice_apply (x : S32x2x128x8x256.Idx → EReal) (u : S1x2x128x8x256.Idx → EReal) (n k : Fin 32) (b : Fin 2)
    (i : Fin 128) (h : Fin 8) (d : Fin 256) :
    Host.dynamicUpdateSlice x u (start k) updateFits_S32x2x128x8x256_S1x2x128x8x256 (ix5 n b i h d)
      = if n = k then u (ix5 0 b i h d) else x (ix5 n b i h d) := by
  rw [Host.dynamicUpdateSlice_apply]
  by_cases hn : n = k
  · subst hn
    rw [if_pos rfl, dif_pos]
    · refine congrArg u (funext fun a => Fin.ext ?_)
      have hc := clamped n a
      fin_cases a
      · exact (congrArg (n.val - ·) hc).trans (Nat.sub_self _)
      · exact (congrArg (b.val - ·) hc)
      · exact (congrArg (i.val - ·) hc)
      · exact (congrArg (h.val - ·) hc)
      · exact (congrArg (d.val - ·) hc)
    · intro a
      have hc := clamped n a
      rw [hc]
      fin_cases a
      · show n.val ≤ n.val ∧ n.val < n.val + 1; omega
      · show 0 ≤ b.val ∧ b.val < 0 + 2; omega
      · show 0 ≤ i.val ∧ i.val < 0 + 128; omega
      · show 0 ≤ h.val ∧ h.val < 0 + 8; omega
      · show 0 ≤ d.val ∧ d.val < 0 + 256; omega
  · rw [if_neg hn, dif_neg]
    intro hin
    have h0 := hin 0
    rw [clamped k 0] at h0
    have h1 : k.val ≤ n.val ∧ n.val < k.val + 1 := h0
    exact hn (Fin.ext (by omega))

section
variable (X : Valuation τ sig (Elt Ideal)) (k : Fin 32)
  (hk : X (Proc.devRef .tc main_v132_7) = fun _ => Scf.iv 0#32 1#32 k.val)
include hk

/-- The trip's chunk of the queries, keys and values. -/
theorem slice_q (b : Fin 2) (i : Fin 128) (h : Fin 8) (d : Fin 256) :
    res_main_while0b_v159 X (ix4 b i h d) = X (Proc.devRef .tc main_v132_0) (ix5 k b i h d) := by
  unfold res_main_while0b_v159
  rw [hk]
  refine Eq.trans ?_ (slice_apply (X (Proc.devRef .tc main_v132_0)) k b i h d)
  pointwise
  rfl
theorem slice_k (b : Fin 2) (i : Fin 128) (h : Fin 8) (d : Fin 256) :
    res_main_while0b_v160 X (ix4 b i h d) = X (Proc.devRef .tc main_v132_1) (ix5 k b i h d) := by
  unfold res_main_while0b_v160
  rw [hk]
  refine Eq.trans ?_ (slice_apply (X (Proc.devRef .tc main_v132_1)) k b i h d)
  pointwise
  rfl
theorem slice_v (b : Fin 2) (i : Fin 128) (h : Fin 8) (d : Fin 256) :
    res_main_while0b_v161 X (ix4 b i h d) = X (Proc.devRef .tc main_v132_2) (ix5 k b i h d) := by
  unfold res_main_while0b_v161
  rw [hk]
  refine Eq.trans ?_ (slice_apply (X (Proc.devRef .tc main_v132_2)) k b i h d)
  pointwise
  rfl

/-- The state after the trip. -/
theorem step_state (b : Fin 2) (h : Fin 8) (d e : Fin 256) :
    step_main_v132_8 X (ix4 b h d e)
      = Retention.step (fun j d => X (Proc.devRef .tc main_v132_1) (ix5 k b j h d))
          (fun j e => X (Proc.devRef .tc main_v132_2) (ix5 k b j h e))
          (fun j => X (Proc.devRef .tc main_v132_6) (ix4 0 j h 0)) (X (Proc.devRef .tc main_v132_5) (ix4 0 h 0 0))
          (fun d e => X (Proc.devRef .tc main_v132_8) (ix4 b h d e)) d e := by
  unfold step_main_v132_8
  simp only [id_eq]
  pointwise [Retention.step]
  simp only [slice_k X k hk, slice_v X k hk]

/-- The output rows after the trip: the trip's chunk is new, the others are kept. -/
theorem step_out (n : Fin 32) (b : Fin 2) (i : Fin 128) (h : Fin 8) (e : Fin 256) :
    step_main_v132_9 X (ix5 n b i h e)
      = if n = k then
          mix (fun j d => X (Proc.devRef .tc main_v132_0) (ix5 k b j h d))
            (fun j d => X (Proc.devRef .tc main_v132_1) (ix5 k b j h d))
            (fun j e => X (Proc.devRef .tc main_v132_2) (ix5 k b j h e))
            (fun i j => X (Proc.devRef .tc main_v132_3) (ix3 h i j))
            (fun j => X (Proc.devRef .tc main_v132_4) (ix4 0 j h 0))
            (fun d e => X (Proc.devRef .tc main_v132_8) (ix4 b h d e)) i e
        else X (Proc.devRef .tc main_v132_9) (ix5 n b i h e) := by
  unfold step_main_v132_9
  rw [hk]
  simp only [id_eq]
  refine (updateSlice_apply (X (Proc.devRef .tc main_v132_9)) _ n k b i h e).trans ?_
  refine congrArg (fun y => if n = k then y else X (Proc.devRef .tc main_v132_9) (ix5 n b i h e)) ?_
  pointwise [mix]
  simp only [slice_k X k hk, slice_v X k hk, slice_q X k hk]
  refine congrArg₂ (· + ·) (Finset.sum_congr rfl fun j _ => ?_) (congrArg (· * _) (Finset.sum_congr rfl fun j _ => ?_))
  · exact mul_comm _ _
  · exact mul_comm _ _

end

end Cert.ReferenceIdeal.Loop
-- ==== Proof.RefEntry.lean ====
module

public import proofs.«01_k».proof.Proof.Spec
public import proofs.«01_k».proof.Proof.Gen.ReferenceIdeal.Run
public import Idealize.ShloMosaic.Lib.StableHlo.ReadAt

/-! What the reference's loop over the chunks starts from, read at an index over the extended reals. -/

@[expose] public section

set_option maxRecDepth 16384

noncomputable section

open Idealize.ShloMosaic Idealize.ShloMosaic.TcCoe Idealize.SL.Sem Idealize.ShloMosaic.StableHlo Idealize.ShloMosaic.HostLoop

namespace Cert.ReferenceIdeal.Loop

open Cert.ReferenceIdeal Cert.ReferenceIdeal.Gen Cert.ReferenceIdeal.Value
open Cert.Retention

variable (m : (ℓ : Loc nD τ sig) → Buf (Elt Ideal) ℓ) (c : Dev nD)

/-- The projection's entry at a row and column. -/
def zin (i : Fin 8192) (j : Fin 10240) : EReal := m ((c : Thread nD τ).loc main_arg0) (ix2 i j)

/-- The norm's weight. -/
def gin (i : Fin 2048) : EReal := m ((c : Thread nD τ).loc main_arg1) (ix1 i)

set_option maxHeartbeats 4000000 in
/-- The values at the loop's entry. -/
theorem v_entry (n : Fin 32) (b : Fin 2) (i : Fin 128) (h : Fin 8) (d : Fin 256) :
    entryContents preI m c (Proc.devRef .tc main_v132_2) (ix5 n b i h d) = vs (zin m c) b h n.val i d := by
  simp only [entryContents, afterL_cons, afterL_nil]
  after_reads_simp
  simp only [id_eq]
  pointwise
  unfold vs zin row col
  refine congrArg (m ((c : Thread nD τ).loc main_arg0)) (congrArg₂ ix2 (Fin.ext ?_) (Fin.ext ?_))
  · simp only [Nat.mod_eq_of_lt n.isLt]
  · show 4096 + (h.val * 256 + d.val) = 2 * 2048 + (h.val * 256 + d.val)
    omega

set_option maxHeartbeats 4000000 in
/-- The tables at the loop's entry. -/
theorem dmat_entry (h : Fin 8) (i j : Fin 128) :
    entryContents preI m c (Proc.devRef .tc main_v132_3) (ix3 h i j) = dmat h.val i.val j.val := by
  simp only [entryContents, afterL_cons, afterL_nil]
  after_reads_at
  simp only [id_eq]
  pointwise
  rfl
theorem xi_entry (h : Fin 8) (i : Fin 128) :
    entryContents preI m c (Proc.devRef .tc main_v132_4) (ix4 0 i h 0) = xi h.val i.val := by
  simp only [entryContents, afterL_cons, afterL_nil]
  after_reads_simp
  simp only [id_eq]
  pointwise
  rfl
theorem gc_entry (h : Fin 8) :
    entryContents preI m c (Proc.devRef .tc main_v132_5) (ix4 0 h 0 0) = chunkDecay h.val := by
  simp only [entryContents, afterL_cons, afterL_nil]
  after_reads_simp
  simp only [id_eq]
  pointwise
  rfl
theorem zeta_entry (h : Fin 8) (i : Fin 128) :
    entryContents preI m c (Proc.devRef .tc main_v132_6) (ix4 0 i h 0) = zeta h.val i.val := by
  simp only [entryContents, afterL_cons, afterL_nil]
  after_reads_simp
  simp only [id_eq]
  pointwise
  rfl
theorem state_entry (b : Fin 2) (h : Fin 8) (d e : Fin 256) :
    entryContents preI m c (Proc.devRef .tc main_v132_8) (ix4 b h d e) = (0 : EReal) := by
  simp only [entryContents, afterL_cons, afterL_nil]
  after_reads_simp
  simp only [id_eq]
  pointwise
theorem gate_entry (b : Fin 2) (p : Fin 4096) (x : Fin 2048) :
    entryContents preI m c (Proc.devRef .tc main_v4) (ix3 b p x) = zin m c ⟨b.val * 4096 + p.val, by omega⟩ ⟨6144 + x.val, by omega⟩ := by
  simp only [entryContents, afterL_cons, afterL_nil]
  after_reads_simp
  pointwise
  rfl
theorem arg0_entry : entryContents preI m c (Proc.devRef .tc main_arg0) = m ((c : Thread nD τ).loc main_arg0) := by
  simp only [entryContents, afterL_cons, afterL_nil]
  after_reads_simp
theorem arg1_entry : entryContents preI m c (Proc.devRef .tc main_arg1) = m ((c : Thread nD τ).loc main_arg1) := by
  simp only [entryContents, afterL_cons, afterL_nil]
  after_reads_simp

end Cert.ReferenceIdeal.Loop
-- ==== Proof.RefRope.lean ====
module

public import proofs.«01_k».proof.Proof.RefEntry

/-! The rotated queries and keys the reference's loop over the chunks starts from, read at an index. -/

@[expose] public section

set_option maxRecDepth 16384

noncomputable section

open Idealize.ShloMosaic Idealize.ShloMosaic.TcCoe Idealize.SL.Sem Idealize.ShloMosaic.StableHlo Idealize.ShloMosaic.HostLoop

namespace Cert.ReferenceIdeal.Loop

open Cert.ReferenceIdeal Cert.ReferenceIdeal.Gen Cert.ReferenceIdeal.Value
open Cert.Retention

variable (m : (ℓ : Loc nD τ sig) → Buf (Elt Ideal) ℓ) (c : Dev nD)

/-- Chunk `n`'s rotated rows at a chunk number below 32, spelt out. -/
theorem qs_fin (z : Fin 8192 → Fin 10240 → EReal) (n : Fin 32) (b : Fin 2) (i : Fin 128) (h : Fin 8) (d : Fin 256) :
    qs z b h n.val i d
      = (if hd : d.val < 128 then
          z ⟨b.val * 4096 + (n.val * 128 + i.val), by omega⟩ ⟨(h.val * 256 + d.val), by omega⟩
            * cosT (n.val * 128 + i.val) d.val
          - z ⟨b.val * 4096 + (n.val * 128 + i.val), by omega⟩ ⟨(h.val * 256 + (128 + d.val)), by omega⟩
            * sinT (n.val * 128 + i.val) d.val
        else
          z ⟨b.val * 4096 + (n.val * 128 + i.val), by omega⟩ ⟨(h.val * 256 + (d.val - 128)), by omega⟩
            * sinT (n.val * 128 + i.val) (d.val - 128)
          + z ⟨b.val * 4096 + (n.val * 128 + i.val), by omega⟩ ⟨(h.val * 256 + (128 + (d.val - 128))), by omega⟩
            * cosT (n.val * 128 + i.val) (d.val - 128)) := by
  unfold qs rope row col
  simp only [Nat.mod_eq_of_lt n.isLt, Fin.val_zero, Fin.val_one, Nat.zero_mul, Nat.zero_add, Nat.one_mul]

set_option maxHeartbeats 4000000 in
/-- The rotated rows at the loop's entry. -/
theorem q_entry (n : Fin 32) (b : Fin 2) (i : Fin 128) (h : Fin 8) (d : Fin 256) :
    entryContents preI m c (Proc.devRef .tc main_v132_0) (ix5 n b i h d) = qs (zin m c) b h n.val i d := by
  rw [qs_fin]
  simp only [entryContents, afterL_cons, afterL_nil]
  after_reads_at
  simp only [id_eq]
  pointwise
  after_reads_at
  unfold cosT sinT angle
  rfl

/-- Chunk `n`'s rotated rows at a chunk number below 32, spelt out. -/
theorem ks_fin (z : Fin 8192 → Fin 10240 → EReal) (n : Fin 32) (b : Fin 2) (i : Fin 128) (h : Fin 8) (d : Fin 256) :
    ks z b h n.val i d
      = (if hd : d.val < 128 then
          z ⟨b.val * 4096 + (n.val * 128 + i.val), by omega⟩ ⟨2048 + (h.val * 256 + d.val), by omega⟩
            * cosT (n.val * 128 + i.val) d.val
          - z ⟨b.val * 4096 + (n.val * 128 + i.val), by omega⟩ ⟨2048 + (h.val * 256 + (128 + d.val)), by omega⟩
            * sinT (n.val * 128 + i.val) d.val
        else
          z ⟨b.val * 4096 + (n.val * 128 + i.val), by omega⟩ ⟨2048 + (h.val * 256 + (d.val - 128)), by omega⟩
            * sinT (n.val * 128 + i.val) (d.val - 128)
          + z ⟨b.val * 4096 + (n.val * 128 + i.val), by omega⟩ ⟨2048 + (h.val * 256 + (128 + (d.val - 128))), by omega⟩
            * cosT (n.val * 128 + i.val) (d.val - 128)) * Ideal.ofBits FTy.f32 1031798784#32 := by
  unfold ks rope row col
  simp only [Nat.mod_eq_of_lt n.isLt, Fin.val_zero, Fin.val_one, Nat.zero_mul, Nat.zero_add, Nat.one_mul]

set_option maxHeartbeats 4000000 in
/-- The rotated rows at the loop's entry. -/
theorem k_entry (n : Fin 32) (b : Fin 2) (i : Fin 128) (h : Fin 8) (d : Fin 256) :
    entryContents preI m c (Proc.devRef .tc main_v132_1) (ix5 n b i h d) = ks (zin m c) b h n.val i d := by
  rw [ks_fin]
  simp only [entryContents, afterL_cons, afterL_nil]
  after_reads_at
  simp only [id_eq]
  pointwise
  after_reads_at

  unfold cosT sinT angle
  rfl

end Cert.ReferenceIdeal.Loop
-- ==== Proof.RefValue.lean ====
module

public import proofs.«01_k».proof.Proof.RefLoop
public import proofs.«01_k».proof.Proof.RefRope

/-! The reference's two results over the extended reals, from its loop's trips. -/

@[expose] public section

set_option maxRecDepth 16384

noncomputable section

open Idealize.ShloMosaic Idealize.ShloMosaic.TcCoe Idealize.SL.Sem Idealize.ShloMosaic.StableHlo Idealize.ShloMosaic.HostLoop

namespace Cert.ReferenceIdeal.Loop

open Cert.ReferenceIdeal Cert.ReferenceIdeal.Gen Cert.ReferenceIdeal.Value
open Cert.Retention

variable (m : (ℓ : Loc nD τ sig) → Buf (Elt Ideal) ℓ) (c : Dev nD)

/-- What a trip leaves in a carried buffer. -/
theorem atK_succ (k : ℕ) (r : Ref sig .tc) (hr : r ∈ carriedRefs) :
    atK m (k + 1) c (Proc.devRef .tc r) = STEP (atK m k c) (Proc.devRef .tc r) :=
  trip_agree (atK m k c) r hr

/-- A buffer that every trip keeps. -/
theorem atK_keep (r : Ref sig .tc) (hr : r ∈ carriedRefs)
    (h : ∀ X : Valuation τ sig (Elt Ideal), STEP X (Proc.devRef .tc r) = X (Proc.devRef .tc r)) (k : ℕ) :
    atK m k c (Proc.devRef .tc r) = entryContents preI m c (Proc.devRef .tc r) := by
  induction k with
  | zero => rfl
  | succ k ih => rw [atK_succ m c k r hr, h, ih]

/-- The state before trip `k`. -/
theorem state_atK (k : ℕ) (hk : k ≤ 32) (b : Fin 2) (h : Fin 8) (d e : Fin 256) :
    atK m k c (Proc.devRef .tc main_v132_8) (ix4 b h d e) = state (zin m c) b h k d e := by
  induction k generalizing d e with
  | zero => exact state_entry m c b h d e
  | succ k ih =>
    have hk' : k < 32 := hk
    rw [atK_succ m c k main_v132_8 (by decide), STEP_main_v132_8,
      step_state (atK m k c) ⟨k, hk'⟩ (atK_ctr m c k), state,
      atK_keep m c main_v132_1 (by decide) STEP_main_v132_1, atK_keep m c main_v132_2 (by decide) STEP_main_v132_2,
      atK_keep m c main_v132_5 (by decide) STEP_main_v132_5, atK_keep m c main_v132_6 (by decide) STEP_main_v132_6]
    exact step_congr (fun j d => k_entry m c ⟨k, hk'⟩ b j h d) (fun j e => v_entry m c ⟨k, hk'⟩ b j h e)
      (zeta_entry m c h) (gc_entry m c h) (fun d e => ih (by omega) d e) d e

/-- The output rows of the chunks before trip `k`. -/
theorem out_atK (k : ℕ) (hk : k ≤ 32) (n : Fin 32) (hn : n.val < k) (b : Fin 2) (i : Fin 128) (h : Fin 8) (e : Fin 256) :
    atK m k c (Proc.devRef .tc main_v132_9) (ix5 n b i h e) = mixed (zin m c) b h n.val i e := by
  induction k with
  | zero => omega
  | succ k ih =>
    have hk' : k < 32 := hk
    rw [atK_succ m c k main_v132_9 (by decide), STEP_main_v132_9, step_out (atK m k c) ⟨k, hk'⟩ (atK_ctr m c k)]
    by_cases e0 : n = ⟨k, hk'⟩
    · subst e0
      rw [if_pos rfl,
        atK_keep m c main_v132_0 (by decide) STEP_main_v132_0, atK_keep m c main_v132_1 (by decide) STEP_main_v132_1,
        atK_keep m c main_v132_2 (by decide) STEP_main_v132_2, atK_keep m c main_v132_3 (by decide) STEP_main_v132_3,
        atK_keep m c main_v132_4 (by decide) STEP_main_v132_4]
      exact mix_congr (fun j d => q_entry m c ⟨k, hk'⟩ b j h d) (fun j d => k_entry m c ⟨k, hk'⟩ b j h d)
        (fun j e => v_entry m c ⟨k, hk'⟩ b j h e) (dmat_entry m c h) (xi_entry m c h)
        (fun d e => state_atK m c k (by omega) b h d e) i e
    · rw [if_neg e0]
      exact ih (by omega) (by
        have : n.val ≠ k := fun h => e0 (Fin.ext h)
        omega)

/-- A buffer that no operation of the loop writes. -/
theorem atK_other (r : Ref sig .tc)
    (h : ∀ X : Valuation τ sig (Elt Ideal), afterL bodyI X (Proc.devRef .tc r) = X (Proc.devRef .tc r))
    (hc : r ∉ condOps_W) (k : ℕ) :
    atK m k c (Proc.devRef .tc r) = entryContents preI m c (Proc.devRef .tc r) := by
  induction k with
  | zero => rfl
  | succ k ih =>
    rw [show atK m (k + 1) c = afterL bodyI (after condOps (atK m k c)) from rfl, h,
      after_of_writes_sub condOps _ condOps_writes hc, ih]

theorem trip_main_v4 (X : Valuation τ sig (Elt Ideal)) :
    afterL bodyI X (Proc.devRef .tc main_v4) = X (Proc.devRef .tc main_v4) := by
  simp only [bodyI, afterL_cons, afterL_nil, trip_windows]
  after_results
  rw [val8_keep, val7_keep, val6_keep, val5_keep, val4_keep, val3_keep, val2_keep, val1_keep] <;> first | rfl | decide
theorem trip_main_arg0 (X : Valuation τ sig (Elt Ideal)) :
    afterL bodyI X (Proc.devRef .tc main_arg0) = X (Proc.devRef .tc main_arg0) := by
  simp only [bodyI, afterL_cons, afterL_nil, trip_windows]
  after_results
  rw [val8_keep, val7_keep, val6_keep, val5_keep, val4_keep, val3_keep, val2_keep, val1_keep] <;> first | rfl | decide
theorem trip_main_arg1 (X : Valuation τ sig (Elt Ideal)) :
    afterL bodyI X (Proc.devRef .tc main_arg1) = X (Proc.devRef .tc main_arg1) := by
  simp only [bodyI, afterL_cons, afterL_nil, trip_windows]
  after_results
  rw [val8_keep, val7_keep, val6_keep, val5_keep, val4_keep, val3_keep, val2_keep, val1_keep] <;> first | rfl | decide

/-- The second result: the state after all the chunks. -/
theorem final_state (b : Fin 2) (h : Fin 8) (d e : Fin 256) :
    finalContents condOps preI bodyI postI 32 m c (Proc.devRef .tc main_v132_8) (ix4 b h d e)
      = state (zin m c) b h 32 d e := by
  refine Eq.trans ?_ (state_atK m c 32 (Nat.le_refl _) b h d e)
  simp only [finalContents, postI, afterL_cons, afterL_nil]
  after_reads_simp
theorem final_arg0 : finalContents condOps preI bodyI postI 32 m c (Proc.devRef .tc main_arg0)
    = m ((c : Thread nD τ).loc main_arg0) := by
  refine Eq.trans ?_ ((atK_other m c main_arg0 trip_main_arg0 (by decide) 32).trans (arg0_entry m c))
  simp only [finalContents, postI, afterL_cons, afterL_nil]
  after_reads_simp
theorem final_arg1 : finalContents condOps preI bodyI postI 32 m c (Proc.devRef .tc main_arg1)
    = m ((c : Thread nD τ).loc main_arg1) := by
  refine Eq.trans ?_ ((atK_other m c main_arg1 trip_main_arg1 (by decide) 32).trans (arg1_entry m c))
  simp only [finalContents, postI, afterL_cons, afterL_nil]
  after_reads_simp

/-- The head norm and the gate after the loop, from what the loop leaves. -/
theorem tail_out (W : Valuation τ sig (Elt Ideal)) (b : Fin 2) (n : Fin 32) (i : Fin 128) (h : Fin 8) (e : Fin 256) :
    afterL postI (after condOps W) (Proc.devRef .tc main_v158)
        (ix2 ⟨b.val * 4096 + (n.val * 128 + i.val), by omega⟩ ⟨h.val * 256 + e.val, by omega⟩)
      = gated (centre fun e => W (Proc.devRef .tc main_v132_9) (ix5 n b i h e))
          (W (Proc.devRef .tc main_arg1) (ix1 ⟨h.val * 256 + e.val, by omega⟩))
          (W (Proc.devRef .tc main_v4) (ix3 b ⟨n.val * 128 + i.val, by omega⟩ ⟨h.val * 256 + e.val, by omega⟩)) e := by
  simp only [postI, afterL_cons, afterL_nil]
  after_reads_at
  have e0 : (b.val * 4096 + (n.val * 128 + i.val)) / 4096 = b.val := by omega
  have e1 : (b.val * 4096 + (n.val * 128 + i.val)) % 4096 = n.val * 128 + i.val := by omega
  have e2 : (n.val * 128 + i.val) / 128 = n.val := by omega
  have e3 : (n.val * 128 + i.val) % 128 = i.val := by omega
  have e4 : (h.val * 256 + e.val) / 256 = h.val := by omega
  have e5 : (h.val * 256 + e.val) % 256 = e.val := by omega
  simp only [e0, e1, e2, e3, e4, e5]
  unfold gated centre
  have hz (a : EReal) : (0 : EReal) - a = -a := zero_sub a
  exact congrArg (fun s : EReal => _ * (_ * Ideal.div 1 (1 + Ideal.exp s))) (hz _).symm

/-- The first result: the layer's output. -/
theorem final_out (b : Fin 2) (n : Fin 32) (i : Fin 128) (h : Fin 8) (e : Fin 256) :
    finalContents condOps preI bodyI postI 32 m c (Proc.devRef .tc main_v158)
        (ix2 ⟨b.val * 4096 + (n.val * 128 + i.val), by omega⟩ ⟨h.val * 256 + e.val, by omega⟩)
      = output (zin m c) (gin m c) b h n.val i e := by
  refine (tail_out (atK m 32 c) b n i h e).trans ?_
  rw [atK_other m c main_arg1 trip_main_arg1 (by decide), atK_other m c main_v4 trip_main_v4 (by decide),
    arg1_entry, gate_entry]
  rw [funext fun e => out_atK m c 32 (Nat.le_refl _) n n.isLt b i h e]
  unfold output gs
  refine congrArg₂ (fun g r => gated (centre (mixed (zin m c) b h n.val i)) g r e) rfl ?_
  refine congrArg₂ (zin m c) (Fin.ext ?_) (Fin.ext ?_)
  · show b.val * 4096 + (n.val * 128 + i.val) = b.val * 4096 + (n.val % 32 * 128 + i.val)
    omega
  · show 6144 + (h.val * 256 + e.val) = 3 * 2048 + (h.val * 256 + e.val)
    omega

/-- The reference's run: the layer's output and final states, the arguments unchanged. -/
theorem run (ρ : Dev nD → PrngReg) :
    θ_run (defs (F := Ideal)) (onTc (τ := τ) (main (F := Ideal))) ⟨m, fun _ => 0, ρ⟩ fun r => ∀ c : Dev nD,
      (∀ (b : Fin 2) (n : Fin 32) (i : Fin 128) (h : Fin 8) (e : Fin 256),
        r.2.mem ((c : Thread nD τ).loc main_v158)
            (ix2 ⟨b.val * 4096 + (n.val * 128 + i.val), by omega⟩ ⟨h.val * 256 + e.val, by omega⟩)
          = output (zin m c) (gin m c) b h n.val i e)
      ∧ (∀ (b : Fin 2) (h : Fin 8) (d e : Fin 256),
        r.2.mem ((c : Thread nD τ).loc main_v132_8) (ix4 b h d e) = state (zin m c) b h 32 d e)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      fun b n i hh e => (congrFun (h c main_v158 (by decide)) _).trans (final_out m c b n i hh e),
      fun b hh d e => (congrFun (h c main_v132_8 (by decide)) _).trans (final_state m c b hh d e),
      (h c main_arg0 (by decide)).trans (final_arg0 m c),
      (h c main_arg1 (by decide)).trans (final_arg1 m c)⟩)
    (run_fold m ρ)

end Cert.ReferenceIdeal.Loop
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.MergeValue
public import proofs.«01_k».proof.Proof.OutValue
public import proofs.«01_k».proof.Proof.ProjValue
public import proofs.«01_k».proof.Proof.TailValue
public import proofs.«01_k».proof.Proof.KvValue
public import proofs.«01_k».proof.Proof.NormValue
public import proofs.«01_k».proof.Proof.MemKvValue
public import proofs.«01_k».proof.Proof.MemValue
public import proofs.«01_k».proof.Proof.Gen.Kv
public import proofs.«01_k».proof.Proof.Gen.KvIdeal
public import proofs.«01_k».proof.Proof.Gen.KvReferenceIdeal
public import proofs.«01_k».proof.Proof.Gen.Proj
public import proofs.«01_k».proof.Proof.Gen.ProjIdeal
public import proofs.«01_k».proof.Proof.Gen.ProjReferenceIdeal
public import proofs.«01_k».proof.Proof.Gen.Tail
public import proofs.«01_k».proof.Proof.Gen.TailIdeal
public import proofs.«01_k».proof.Proof.Gen.TailReferenceIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.Mem
public import proofs.«01_k».proof.Proof.Gen.Mem.Frame
public import proofs.«01_k».proof.Proof.Gen.MemIdeal
public import proofs.«01_k».proof.Proof.Gen.MemIdeal.Frame
public import proofs.«01_k».proof.Proof.Gen.MemIdeal.Value
public import proofs.«01_k».proof.Proof.Gen.MemReferenceIdeal
public import proofs.«01_k».proof.Proof.Gen.MemReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.Retention

/-- An array of the layer's output is fixed by its entries at block, chunk, row, head and column. -/
theorem out_ext (z : Fin 8192 → Fin 10240 → EReal) (gn : Fin 2048 → EReal)
    (o : Cert.KernelIdeal.S8192x2048.Idx → EReal)
    (ho : ∀ (b : Fin 2) (n : Fin 32) (i : Fin 128) (h : Fin 8) (e : Fin 256),
      o (ix2 ⟨b.val * 4096 + (n.val * 128 + i.val), by omega⟩ ⟨h.val * 256 + e.val, by omega⟩) = output z gn b h n.val i e) :
    o = Cert.KernelIdeal.Steps.outArr z gn := by
  funext y
  obtain ⟨p, x, rfl⟩ : ∃ (p : Fin 8192) (x : Fin 2048), y = ix2 p x := ⟨y 0, y 1, eq_ix2 y⟩
  have := ho ⟨p.val / 4096, by omega⟩ ⟨p.val % 4096 / 128, by omega⟩ ⟨p.val % 128, by omega⟩ ⟨x.val / 256, by omega⟩
    ⟨x.val % 256, by omega⟩
  refine Eq.trans (congrArg o ?_) (this.trans (Cert.KernelIdeal.Steps.outArr_apply z gn _ _ _ _ _ (ix2 p x) ?_ ?_ ?_).symm)
  · exact congrArg₂ ix2 (Fin.ext (by show p.val = p.val / 4096 * 4096 + (p.val % 4096 / 128 * 128 + p.val % 128); omega))
      (Fin.ext (by show x.val = x.val / 256 * 256 + x.val % 256; omega))
  · show p.val % 4096 / 128 < 32
    omega
  · show p.val = p.val / 4096 * 4096 + (p.val % 4096 / 128 * 128 + p.val % 128)
    omega
  · show x.val = x.val / 256 * 256 + x.val % 256
    omega

/-- An array of states is fixed by its entries. -/
theorem state_ext (z : Fin 8192 → Fin 10240 → EReal) (o : Cert.KernelIdeal.S2x8x256x256.Idx → EReal)
    (ho : ∀ (b : Fin 2) (h : Fin 8) (d e : Fin 256), o (ix4 b h d e) = state z b h 32 d e) :
    o = Cert.KernelIdeal.Steps.stateArr z := by
  funext y
  obtain ⟨b, h, d, e, rfl⟩ : ∃ (b : Fin 2) (h : Fin 8) (d e : Fin 256), y = ix4 b h d e := ⟨y 0, y 1, y 2, y 3, eq_ix4 y⟩
  exact ho b h d e

/-- The reference terminates, keeps its arguments, and has no semaphore to leave raised. -/
theorem reference_quiescent : Cert.quiescent_ReferenceIdeal (hReferenceIdeal := Cert.ReferenceIdeal.Gen.facts) :=
  fun m ρ _ => (θ_run Cert.ReferenceIdeal.defs _ _).mono
    (fun r h => ⟨fun c => ⟨(h c).2.2.1, (h c).2.2.2⟩, sem_eq_zero_of_no_sems (by decide) r.2⟩)
    (Cert.ReferenceIdeal.Loop.run m ρ)

/-- The retention kernel and the layer's recurrence give the same output and the same final states. -/
theorem retention : Cert.algebraic_KernelIdeal_ReferenceIdeal (hKernelIdeal := Cert.KernelIdeal.Gen.facts)
    (hReferenceIdeal := Cert.ReferenceIdeal.Gen.facts) := by
  intro m g m' g' _ hagree
  have hz (c) : Cert.ReferenceIdeal.Loop.zin m' c = Cert.KernelIdeal.Steps.zin m c :=
    funext fun i => funext fun j => congrFun (hagree c).1 (ix2 i j)
  have hg (c) : Cert.ReferenceIdeal.Loop.gin m' c = Cert.KernelIdeal.Steps.gin m c :=
    funext fun i => congrFun (hagree c).2 (ix1 i)
  refine ⟨fun c => Cert.KernelIdeal.Steps.outArr (Cert.KernelIdeal.Steps.zin m c) (Cert.KernelIdeal.Steps.gin m c),
    fun c => Cert.KernelIdeal.Steps.stateArr (Cert.KernelIdeal.Steps.zin m c), Cert.KernelIdeal.Steps.run m g, ?_⟩
  refine (θ_run Cert.ReferenceIdeal.defs _ _).mono (fun r h c => ⟨?_, ?_, (h c).2.2⟩) (Cert.ReferenceIdeal.Loop.run m' g')
  · exact out_ext _ _ _ fun b n i hd e => ((h c).1 b n i hd e).trans (by rw [hz c, hg c])
  · exact state_ext _ _ fun b hd d e => ((h c).2.1 b hd d e).trans (by rw [hz c])

/-- The merge's kernel and its reference give the same array. -/
theorem merge : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => (Cert.MergeIdeal.Gen.dats m 0 c).arrAt 9 Cert.MergeIdeal.cfg0.N, Cert.MergeIdeal.Value.run_blocks m g, ?_⟩
  refine (θ_run Cert.MergeReferenceIdeal.defs _ _).mono (fun r h c => ⟨?_, (h c).2⟩)
    (Cert.MergeReferenceIdeal.Steps.run m' g')
  obtain ⟨e0, e1, e2, e3, e4, e5, e6⟩ := hagree c
  refine (h c).1.trans (Eq.trans ?_ (Cert.MergeIdeal.Steps.final m c).symm)
  rw [e0, e1, e2, e3, e4, e5, e6]

/-- The projection's body at bits and the one the idealized program names are the same text. -/
theorem proj_body : Cert.Proj.defs₀ (F := Bits) = Cert.ProjIdeal.defs₀ (F := Bits) := by
  unfold Cert.Proj.defs₀ Cert.ProjIdeal.defs₀
  refine congrArg (Defs.onTc (nD := Cert.ProjIdeal.nD) (τ := Cert.ProjIdeal.τ)) (funext fun l => funext fun a => ?_)
  match l, a with
  | ⟨0, _⟩, (t, s) => rfl
  | ⟨_ + 1, h⟩, _ => exact absurd h (Nat.not_lt.2 (Nat.le_add_left _ _))

/-- The projection at bits runs, keeps its arguments and leaves no semaphore raised. -/
theorem proj_quiescent : Cert.quiescent_Proj (hProj := Cert.Proj.Gen.facts) := by
  intro m ρ _
  have h : Cert.Proj.defs (F := Bits) = Cert.ProjIdeal.defs (F := Bits) :=
    congrArg (Pipeline.defs (Cert.ProjIdeal.pcfgs (F := Bits))) proj_body
  rw [h]
  exact Cert.ProjIdeal.Body.quiescent (F := Bits) m ρ

/-- The projection and its reference leave the same two arrays. -/
theorem proj : Cert.algebraic_ProjIdeal_ProjReferenceIdeal
    (hProjIdeal := Cert.ProjIdeal.Gen.facts) (hProjReferenceIdeal := Cert.ProjReferenceIdeal.Gen.facts) := by
  intro m g m' g' _ hm
  refine ⟨fun c => Cert.ProjIdeal.Steps.firstCols (m ((c.tc : Thread _ _).loc Cert.ProjIdeal.main_arg0)) (m ((c.tc : Thread _ _).loc Cert.ProjIdeal.main_arg1)),
    fun c => Cert.ProjIdeal.Steps.firstCols (m ((c.tc : Thread _ _).loc Cert.ProjIdeal.main_arg2)) (m ((c.tc : Thread _ _).loc Cert.ProjIdeal.main_arg1)),
    Cert.ProjIdeal.Steps.run m g, ?_⟩
  refine (θ_run Cert.ProjReferenceIdeal.defs _ _).mono (fun r h c => ⟨(h c).1.trans ?_, (h c).2.1.trans ?_, (h c).2.2⟩)
    (Cert.ProjReferenceIdeal.Steps.run m' g')
  · rw [(hm c).1, (hm c).2.1]
  · rw [(hm c).2.2, (hm c).2.1]

/-- The keys' and values' projection's body at bits and the one the idealized program names are the same text. -/
theorem kv_body : Cert.Kv.defs₀ (F := Bits) = Cert.KvIdeal.defs₀ (F := Bits) := by
  unfold Cert.Kv.defs₀ Cert.KvIdeal.defs₀
  refine congrArg (Defs.onTc (nD := Cert.KvIdeal.nD) (τ := Cert.KvIdeal.τ)) (funext fun l => funext fun a => ?_)
  match l, a with
  | ⟨0, _⟩, (t, s) => rfl
  | ⟨_ + 1, h⟩, _ => exact absurd h (Nat.not_lt.2 (Nat.le_add_left _ _))

/-- The keys' and values' projection at bits runs, keeps its arguments and leaves no semaphore raised. -/
theorem kv_quiescent : Cert.quiescent_Kv (hKv := Cert.Kv.Gen.facts) := by
  intro m ρ _
  have h : Cert.Kv.defs (F := Bits) = Cert.KvIdeal.defs (F := Bits) :=
    congrArg (Pipeline.defs (Cert.KvIdeal.pcfgs (F := Bits))) kv_body
  rw [h]
  exact Cert.KvIdeal.Body.quiescent (F := Bits) m ρ

/-- The keys' and values' projection and its reference leave the same five arrays. -/
theorem kv : Cert.algebraic_KvIdeal_KvReferenceIdeal
    (hKvIdeal := Cert.KvIdeal.Gen.facts) (hKvReferenceIdeal := Cert.KvReferenceIdeal.Gen.facts) := by
  intro m g m' g' _ hm
  refine ⟨fun c => Cert.KvIdeal.Steps.middleCols (m ((c.tc : Thread _ _).loc Cert.KvIdeal.main_arg0)) (m ((c.tc : Thread _ _).loc Cert.KvIdeal.main_arg1)),
    fun c => Cert.KvIdeal.Steps.lines 10240 (by omega) (m ((c.tc : Thread _ _).loc Cert.KvIdeal.main_arg0)) (m ((c.tc : Thread _ _).loc Cert.KvIdeal.main_arg1)),
    fun c => Cert.KvIdeal.Steps.lines 11264 (by omega) (m ((c.tc : Thread _ _).loc Cert.KvIdeal.main_arg0)) (m ((c.tc : Thread _ _).loc Cert.KvIdeal.main_arg1)),
    fun c => Cert.KvIdeal.Steps.lastLines (m ((c.tc : Thread _ _).loc Cert.KvIdeal.main_arg0)) (m ((c.tc : Thread _ _).loc Cert.KvIdeal.main_arg1)),
    fun c => Cert.KvIdeal.Steps.middleCols (m ((c.tc : Thread _ _).loc Cert.KvIdeal.main_arg2)) (m ((c.tc : Thread _ _).loc Cert.KvIdeal.main_arg1)),
    Cert.KvIdeal.Steps.run m g, ?_⟩
  refine (θ_run Cert.KvReferenceIdeal.defs _ _).mono (fun r h c => ⟨(h c).1.trans ?_, (h c).2.1.trans ?_,
    (h c).2.2.1.trans ?_, (h c).2.2.2.1.trans ?_, (h c).2.2.2.2.1.trans ?_, (h c).2.2.2.2.2⟩) (Cert.KvReferenceIdeal.Steps.run m' g')
  iterate 4 · rw [(hm c).1, (hm c).2.1]
  rw [(hm c).2.2, (hm c).2.1]

/-- The remaining columns' projection's body at bits and the one the idealized program names are the same text. -/
theorem tail_body : Cert.Tail.defs₀ (F := Bits) = Cert.TailIdeal.defs₀ (F := Bits) := by
  unfold Cert.Tail.defs₀ Cert.TailIdeal.defs₀
  refine congrArg (Defs.onTc (nD := Cert.TailIdeal.nD) (τ := Cert.TailIdeal.τ)) (funext fun l => funext fun a => ?_)
  match l, a with
  | ⟨0, _⟩, (t, s) => rfl
  | ⟨_ + 1, h⟩, _ => exact absurd h (Nat.not_lt.2 (Nat.le_add_left _ _))

/-- The remaining columns' projection at bits runs, keeps its arguments and leaves no semaphore raised. -/
theorem tail_quiescent : Cert.quiescent_Tail (hTail := Cert.Tail.Gen.facts) := by
  intro m ρ _
  have h : Cert.Tail.defs (F := Bits) = Cert.TailIdeal.defs (F := Bits) :=
    congrArg (Pipeline.defs (Cert.TailIdeal.pcfgs (F := Bits))) tail_body
  rw [h]
  exact Cert.TailIdeal.Body.quiescent (F := Bits) m ρ

/-- The remaining columns' projection and its reference leave the same two arrays. -/
theorem tail : Cert.algebraic_TailIdeal_TailReferenceIdeal
    (hTailIdeal := Cert.TailIdeal.Gen.facts) (hTailReferenceIdeal := Cert.TailReferenceIdeal.Gen.facts) := by
  intro m g m' g' _ hm
  refine ⟨fun c => Cert.TailIdeal.Steps.lastCols (m ((c.tc : Thread _ _).loc Cert.TailIdeal.main_arg0)) (m ((c.tc : Thread _ _).loc Cert.TailIdeal.main_arg1)),
    fun c => Cert.TailIdeal.Steps.lastCols (m ((c.tc : Thread _ _).loc Cert.TailIdeal.main_arg2)) (m ((c.tc : Thread _ _).loc Cert.TailIdeal.main_arg1)),
    Cert.TailIdeal.Steps.run m g, ?_⟩
  refine (θ_run Cert.TailReferenceIdeal.defs _ _).mono (fun r h c => ⟨(h c).1.trans ?_, (h c).2.1.trans ?_, (h c).2.2⟩)
    (Cert.TailReferenceIdeal.Steps.run m' g')
  · rw [(hm c).1, (hm c).2.1]
  · rw [(hm c).2.2, (hm c).2.1]

/-- The output projection's kernel and its reference give the same array. -/
theorem out : Cert.algebraic_OutIdeal_OutReferenceIdeal (hOutIdeal := Cert.OutIdeal.Gen.facts)
    (hOutReferenceIdeal := Cert.OutReferenceIdeal.Gen.facts) := by
  intro m g m' g' _ hagree
  refine ⟨fun c => (Cert.OutIdeal.Gen.dats m 0 c).arrAt 4 Cert.OutIdeal.cfg0.N, Cert.OutIdeal.Value.run_blocks m g, ?_⟩
  refine (θ_run Cert.OutReferenceIdeal.defs _ _).mono (fun r h c => ⟨?_, (h c).2⟩)
    (Cert.OutReferenceIdeal.Steps.run m' g')
  obtain ⟨e0, e1, e2, e3⟩ := hagree c
  refine (h c).1.trans (Eq.trans ?_ (Cert.OutIdeal.Steps.final m c).symm)
  rw [e0, e1, e2, e3]

/-- The input norm's kernel and its reference give the same array. -/
theorem norm : Cert.algebraic_NormIdeal_NormReferenceIdeal (hNormIdeal := Cert.NormIdeal.Gen.facts)
    (hNormReferenceIdeal := Cert.NormReferenceIdeal.Gen.facts) := by
  intro m g m' g' _ hagree
  refine ⟨fun c => (Cert.NormIdeal.Gen.dats m 0 c).arrAt 2 Cert.NormIdeal.cfg0.N, Cert.NormIdeal.Value.run_blocks m g, ?_⟩
  refine (θ_run Cert.NormReferenceIdeal.defs _ _).mono (fun r h c => ⟨?_, (h c).2⟩)
    (Cert.NormReferenceIdeal.Steps.run m' g')
  refine (h c).1.trans (Eq.trans ?_ (Cert.NormIdeal.Steps.final m c).symm)
  rw [(hagree c).1, (hagree c).2]

/-- The memory's projection and its reference give the same array. -/
theorem memkv : Cert.algebraic_MemKvIdeal_MemKvReferenceIdeal (hMemKvIdeal := Cert.MemKvIdeal.Gen.facts)
    (hMemKvReferenceIdeal := Cert.MemKvReferenceIdeal.Gen.facts) := by
  intro m g m' g' _ hagree
  refine ⟨fun c => (Cert.MemKvIdeal.Gen.dats m 0 c).arrAt 2 Cert.MemKvIdeal.cfg0.N, Cert.MemKvIdeal.Value.run_blocks m g, ?_⟩
  refine (θ_run Cert.MemKvReferenceIdeal.defs _ _).mono (fun r h c => ⟨?_, (h c).2⟩)
    (Cert.MemKvReferenceIdeal.Steps.run m' g')
  refine (h c).1.trans (Eq.trans ?_ (Cert.MemKvIdeal.Steps.final m c).symm)
  rw [(hagree c).1, (hagree c).2]

/-- The attention into the memory and its reference give the same array. -/
theorem mem : Cert.algebraic_MemIdeal_MemReferenceIdeal (hMemIdeal := Cert.MemIdeal.Gen.facts)
    (hMemReferenceIdeal := Cert.MemReferenceIdeal.Gen.facts) := by
  intro m g m' g' _ hagree
  refine ⟨fun c => (Cert.MemIdeal.Gen.dats m 0 c).arrAt 2 Cert.MemIdeal.cfg0.N, Cert.MemIdeal.Value.run_blocks m g, ?_⟩
  refine (θ_run Cert.MemReferenceIdeal.defs _ _).mono (fun r h c => ⟨?_, (h c).2⟩)
    (Cert.MemReferenceIdeal.Steps.run m' g')
  refine (h c).1.trans (Eq.trans ?_ (Cert.MemIdeal.Steps.final m c).symm)
  rw [(hagree c).1, (hagree c).2]

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Kv.Gen.facts, Cert.KvIdeal.Gen.facts, Cert.KvReferenceIdeal.Gen.facts,
  Cert.Tail.Gen.facts, Cert.TailIdeal.Gen.facts, Cert.TailReferenceIdeal.Gen.facts,
  Cert.Merge.Gen.facts, Cert.MergeIdeal.Gen.facts, Cert.MergeReferenceIdeal.Gen.facts,
  Cert.Out.Gen.facts, Cert.OutIdeal.Gen.facts, Cert.OutReferenceIdeal.Gen.facts,
  Cert.Norm.Gen.facts, Cert.NormIdeal.Gen.facts, Cert.NormReferenceIdeal.Gen.facts,
  Cert.MemKv.Gen.facts, Cert.MemKvIdeal.Gen.facts, Cert.MemKvReferenceIdeal.Gen.facts,
  Cert.Mem.Gen.facts, Cert.MemIdeal.Gen.facts, Cert.MemReferenceIdeal.Gen.facts,
  fun m ρ _ => Cert.Kernel.Gen.frame m ρ, fun m ρ _ => Cert.KernelIdeal.Gen.frame m ρ, reference_quiescent,
  proj_quiescent, fun m ρ _ => Cert.ProjIdeal.Body.quiescent m ρ,
  fun m ρ _ => (θ_run Cert.ProjReferenceIdeal.defs _ _).mono
    (fun r h => ⟨fun c => (h c).2.2, sem_eq_zero_of_no_sems (by decide) r.2⟩) (Cert.ProjReferenceIdeal.Value.run m ρ),
  kv_quiescent, fun m ρ _ => Cert.KvIdeal.Body.quiescent m ρ,
  fun m ρ _ => (θ_run Cert.KvReferenceIdeal.defs _ _).mono
    (fun r h => ⟨fun c => (h c).2.2.2.2.2, sem_eq_zero_of_no_sems (by decide) r.2⟩) (Cert.KvReferenceIdeal.Value.run m ρ),
  tail_quiescent, fun m ρ _ => Cert.TailIdeal.Body.quiescent m ρ,
  fun m ρ _ => (θ_run Cert.TailReferenceIdeal.defs _ _).mono
    (fun r h => ⟨fun c => (h c).2.2, sem_eq_zero_of_no_sems (by decide) r.2⟩) (Cert.TailReferenceIdeal.Value.run m ρ),
  fun m ρ _ => Cert.Merge.Gen.frame m ρ, fun m ρ _ => Cert.MergeIdeal.Gen.frame m ρ,
  fun m ρ _ => (θ_run Cert.MergeReferenceIdeal.defs _ _).mono
    (fun r h => ⟨fun c => (h c).2, sem_eq_zero_of_no_sems (by decide) r.2⟩) (Cert.MergeReferenceIdeal.Value.run m ρ),
  fun m ρ _ => Cert.Out.Gen.frame m ρ, fun m ρ _ => Cert.OutIdeal.Gen.frame m ρ,
  fun m ρ _ => (θ_run Cert.OutReferenceIdeal.defs _ _).mono
    (fun r h => ⟨fun c => (h c).2, sem_eq_zero_of_no_sems (by decide) r.2⟩) (Cert.OutReferenceIdeal.Value.run m ρ),
  fun m ρ _ => Cert.Norm.Gen.frame m ρ, fun m ρ _ => Cert.NormIdeal.Gen.frame m ρ,
  fun m ρ _ => (θ_run Cert.NormReferenceIdeal.defs _ _).mono
    (fun r h => ⟨fun c => (h c).2, sem_eq_zero_of_no_sems (by decide) r.2⟩) (Cert.NormReferenceIdeal.Value.run m ρ),
  fun m ρ _ => Cert.MemKv.Gen.frame m ρ, fun m ρ _ => Cert.MemKvIdeal.Gen.frame m ρ,
  fun m ρ _ => (θ_run Cert.MemKvReferenceIdeal.defs _ _).mono
    (fun r h => ⟨fun c => (h c).2, sem_eq_zero_of_no_sems (by decide) r.2⟩) (Cert.MemKvReferenceIdeal.Value.run m ρ),
  fun m ρ _ => Cert.Mem.Gen.frame m ρ, fun m ρ _ => Cert.MemIdeal.Gen.frame m ρ,
  fun m ρ _ => (θ_run Cert.MemReferenceIdeal.defs _ _).mono
    (fun r h => ⟨fun c => (h c).2, sem_eq_zero_of_no_sems (by decide) r.2⟩) (Cert.MemReferenceIdeal.Value.run m ρ),
  trivial, retention, trivial, proj, trivial, kv, trivial, tail, trivial, merge, trivial, out, trivial, norm, trivial, memkv, trivial, mem⟩

end Cert.Proof

end
